-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_settled [hPre_settled : Cert.Pre_settled.Facts] (m : (ℓ : Loc Cert.KernelIdeal.nD Cert.KernelIdeal.τ Cert.KernelIdeal.sig) → Buf (Elt Ideal) ℓ) : Prop :=
  ∀ c : Dev Cert.KernelIdeal.nD,
    (Cert.Pre_settled.fn (F := Ideal) (m ((c.tc : Thread Cert.KernelIdeal.nD Cert.KernelIdeal.τ).loc Cert.KernelIdeal.main_arg0))).1 = (fun _ => 1#1)
    ∧ (Cert.Pre_settled.fn (F := Ideal) (m ((c.tc : Thread Cert.KernelIdeal.nD Cert.KernelIdeal.τ).loc Cert.KernelIdeal.main_arg0))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_settled [hPre_settled : Cert.Pre_settled.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_settled.fn (F := Ideal) (m ((c.tc : Thread Cert.ReferenceIdeal.nD Cert.ReferenceIdeal.τ).loc Cert.ReferenceIdeal.main_arg0))).1 = (fun _ => 1#1)
    ∧ (Cert.Pre_settled.fn (F := Ideal) (m ((c.tc : Thread Cert.ReferenceIdeal.nD Cert.ReferenceIdeal.τ).loc Cert.ReferenceIdeal.main_arg0))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_settled [hKernelIdeal : Cert.KernelIdeal.Facts] [hPre_settled : Cert.Pre_settled.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_settled m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_settled [hReferenceIdeal : Cert.ReferenceIdeal.Facts] [hPre_settled : Cert.Pre_settled.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_settled m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.named_const.Statement Cert.KernelIdeal.κ "root_two" .f32 0x3FB504F3#32 ((Real.sqrt 2 : ℝ) : EReal)

def algebraic_KernelIdeal_ReferenceIdeal_pre_settled [hKernelIdeal : Cert.KernelIdeal.Facts] [hReferenceIdeal : Cert.ReferenceIdeal.Facts] [hPre_settled : Cert.Pre_settled.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_settled m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_settled : Cert.Pre_settled.Facts),
    quiescent_Kernel (hKernel := hKernel)
    ∧ quiescent_KernelIdeal (hKernelIdeal := hKernelIdeal)
    ∧ quiescent_KernelIdeal_pre_settled (hKernelIdeal := hKernelIdeal) (hPre_settled := hPre_settled)
    ∧ quiescent_ReferenceIdeal (hReferenceIdeal := hReferenceIdeal)
    ∧ quiescent_ReferenceIdeal_pre_settled (hReferenceIdeal := hReferenceIdeal) (hPre_settled := hPre_settled)
    ∧ preserves_Kernel_KernelIdeal
    ∧ algebraic_KernelIdeal_ReferenceIdeal_pre_settled (hKernelIdeal := hKernelIdeal) (hReferenceIdeal := hReferenceIdeal) (hPre_settled := hPre_settled)
-- ==== Pre_settled.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩

class Facts : Prop where
  reducesTo_S4096x64_S4096_d1 : S4096x64.ReducesTo [1] S4096
  h_S_ : 0 < S_.numel
  bcast_S4096_S4096x1_0 : S4096.BroadcastsInDim S4096x1 (![0] : Fin 1 → Fin S4096x1.rank)
  bcast_S4096_S1x4096_1 : S4096.BroadcastsInDim S1x4096 (![1] : Fin 1 → Fin S1x4096.rank)
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x64_S64x4096_1_0 : S4096x64.Transposes [1, 0] S64x4096
  bcast_S_S4096x4096 : S_.BroadcastsInDim S4096x4096 (![] : Fin 0 → Fin S4096x4096.rank)
  natLt_1_32 : 1 < 32
  reducesTo_S4096x4096_S4096_d1 : S4096x4096.ReducesTo [1] S4096
  bcast_S_S4096 : S_.BroadcastsInDim S4096 (![] : Fin 0 → Fin S4096.rank)
  bcast_S_S4096x64 : S_.BroadcastsInDim S4096x64 (![] : Fin 0 → Fin S4096x64.rank)
  dot_S4096x64_S64x4096_S4096x4096_1_0_0_1_n_n_wf : DotDims.WF S4096x64 S64x4096 S4096x4096 [1] [0] [0] [1] [] []

variable [Facts]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def fn_where {F : FTy → Type} [FloatOps F] (arg0 : IVec S4096 1) (arg1 : IVec S4096 32) (arg2 : IVec S_ 32) : IVec S4096 32 :=
  let v0 : IVec S_ 32 := id arg2
  let v1 : IVec S4096 32 := broadcastInDim S4096 ![] bcast_S_S4096 v0
  let v2 : IVec S4096 32 := select arg0 arg1 v1
  v2

def fn_where_0 {F : FTy → Type} [FloatOps F] (arg0 : IVec S4096x4096 1) (arg1 : IVec S1x4096 32) (arg2 : IVec S_ 32) : IVec S4096x4096 32 :=
  let v0 : IVec S_ 32 := id arg2
  let v1 : IVec S4096x4096 32 := broadcastInDim S4096x4096 ![0, 1] bcast_S1x4096_S4096x4096_0_1 arg1
  let v2 : IVec S4096x4096 32 := broadcastInDim S4096x4096 ![] bcast_S_S4096x4096 v0
  let v3 : IVec S4096x4096 32 := select arg0 v1 v2
  v3

def fn_sweep_1 {F : FTy → Type} [FloatOps F] (arg0 : IVec S4096x4096 1) (arg1 : IVec S4096 32) : IVec S4096 32 :=
  let v0 : IVec S1x4096 32 := broadcastInDim S1x4096 ![1] bcast_S4096_S1x4096_1 arg1
  let c : IVec S_ 32 := constantI S_ 32 4096#32
  let v1 : IVec S4096x4096 32 := fn_where_0 (F := F) arg0 v0 c
  let c_0 : IVec S_ 32 := constantI S_ 32 2147483647#32
  let v2 : IVec S4096 32 := (fun x v => Host.reduce IntOp.minsi x v reducesTo_S4096x4096_S4096_d1 h_S_) v1 c_0
  let v3 : IVec S4096 32 := minsi arg1 v2
  v3

def fn_sweep_4 {F : FTy → Type} [FloatOps F] (arg0 : IVec S4096x4096 1) (arg1 : IVec S4096 32) : IVec S4096 32 :=
  let v0 : IVec S4096 32 := fn_sweep_1 (F := F) arg0 arg1
  let v1 : IVec S4096 32 := fn_sweep_1 (F := F) arg0 v0
  let v2 : IVec S4096 32 := fn_sweep_1 (F := F) arg0 v1
  let v3 : IVec S4096 32 := fn_sweep_1 (F := F) arg0 v2
  v3

def fn_sweep_16 {F : FTy → Type} [FloatOps F] (arg0 : IVec S4096x4096 1) (arg1 : IVec S4096 32) : IVec S4096 32 :=
  let v0 : IVec S4096 32 := fn_sweep_4 (F := F) arg0 arg1
  let v1 : IVec S4096 32 := fn_sweep_4 (F := F) arg0 v0
  let v2 : IVec S4096 32 := fn_sweep_4 (F := F) arg0 v1
  let v3 : IVec S4096 32 := fn_sweep_4 (F := F) arg0 v2
  v3

def fn_part1 {F : FTy → Type} [FloatOps F] (main_arg0 : FVec F S4096x64 .f32) (main_v13 : IVec S4096x4096 1) (main_v17 : IVec S4096 1) (main_v18 : IVec S4096x1 1) : IVec S4096x64 1 × IVec S4096 1 :=
  let main_v19 : IVec S4096x4096 1 := broadcastInDim S4096x4096 ![0, 1] bcast_S4096x1_S4096x4096_0_1 main_v18
  let main_v20 : IVec S4096x4096 1 := andi main_v13 main_v19
  let main_v21 : IVec S1x4096 1 := broadcastInDim S1x4096 ![1] bcast_S4096_S1x4096_1 main_v17
  let main_v22 : IVec S4096x4096 1 := broadcastInDim S4096x4096 ![0, 1] bcast_S1x4096_S4096x4096_0_1 main_v21
  let main_v23 : IVec S4096x4096 1 := andi main_v20 main_v22
  let main_v24 : IVec S4096 32 := iotaInDim S4096 32 0
  let main_c_3 : IVec S_ 32 := constantI S_ 32 4096#32
  let main_v25 : IVec S4096 32 := fn_where (F := F) main_v17 main_v24 main_c_3
  let main_v26 : IVec S4096 32 := fn_sweep_16 (F := F) main_v23 main_v25
  let main_v27 : IVec S4096 32 := fn_sweep_16 (F := F) main_v23 main_v26
  let main_v28 : IVec S4096 32 := fn_sweep_16 (F := F) main_v23 main_v27
  let main_v29 : IVec S4096 32 := fn_sweep_16 (F := F) main_v23 main_v28
  let main_v30 : FVec F S4096x64 .f32 := Host.absf main_arg0
  let main_cst_4 : FVec F S_ .f32 := constant S_ .f32 0x7F800000#32
  let main_v31 : FVec F S4096x64 .f32 := broadcastInDim S4096x64 ![] bcast_S_S4096x64 main_cst_4
  let main_v32 : IVec S4096x64 1 := cmpf .olt main_v30 main_v31
  let main_v33 : IVec S4096 32 := fn_sweep_1 (F := F) main_v23 main_v29
  let main_v34 : IVec S4096 1 := cmpi .eq main_v33 main_v29
  (main_v32, main_v34)

def fn {F : FTy → Type} [FloatOps F] (main_arg0 : FVec F S4096x64 .f32) : IVec S4096x64 1 × IVec S4096 1 :=
  let main_v0 : FVec F S4096x64 .f32 := mulf main_arg0 main_arg0
  let main_cst : FVec F S_ .f32 := constant S_ .f32 0x00000000#32
  let main_v1 : FVec F S4096 .f32 := (fun x v => Host.reduceAdd x v reducesTo_S4096x64_S4096_d1 h_S_) main_v0 main_cst
  let main_v2 : FVec F S4096x1 .f32 := broadcastInDim S4096x1 ![0] bcast_S4096_S4096x1_0 main_v1
  let main_v3 : FVec F S1x4096 .f32 := broadcastInDim S1x4096 ![1] bcast_S4096_S1x4096_1 main_v1
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S64x4096 .f32 := (transpose S64x4096 [1, 0] · transposes_S4096x64_S64x4096_1_0) main_arg0
  let main_v8 : FVec F S4096x4096 .f32 := (fun l r => Host.dotGeneral dot_S4096x64_S64x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x42F20000#32
  let main_v12 : FVec F S4096x4096 .f32 := broadcastInDim S4096x4096 ![] bcast_S_S4096x4096 main_cst_1
  let main_v13 : IVec S4096x4096 1 := cmpf .olt main_v11 main_v12
  let main_v14 : IVec S4096x4096 32 := (extui 32 · natLt_1_32) main_v13
  let main_c : IVec S_ 32 := constantI S_ 32 0#32
  let main_v15 : IVec S4096 32 := (fun x v => Host.reduce IntOp.addi x v reducesTo_S4096x4096_S4096_d1 h_S_) main_v14 main_c
  let main_c_2 : IVec S_ 32 := constantI S_ 32 10#32
  let main_v16 : IVec S4096 32 := broadcastInDim S4096 ![] bcast_S_S4096 main_c_2
  let main_v17 : IVec S4096 1 := cmpi .sge main_v15 main_v16
  let main_v18 : IVec S4096x1 1 := broadcastInDim S4096x1 ![0] bcast_S4096_S4096x1_0 main_v17
  fn_part1 (F := F) main_arg0 main_v13 main_v17 main_v18
-- ==== Kernel.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S64x4096 : Shape := ⟨2, ![64, 4096]⟩
abbrev S1x4096 : Shape := ⟨2, ![1, 4096]⟩
abbrev S4096x4096 : Shape := ⟨2, ![4096, 4096]⟩
abbrev S512x64 : Shape := ⟨2, ![512, 64]⟩
abbrev S512x4096 : Shape := ⟨2, ![512, 4096]⟩
abbrev S512x1 : Shape := ⟨2, ![512, 1]⟩
abbrev S512 : Shape := ⟨1, ![512]⟩
abbrev S1x1x4096 : Shape := ⟨3, ![1, 1, 4096]⟩
abbrev S1 : Shape := ⟨1, ![1]⟩
abbrev S1x1x1 : Shape := ⟨3, ![1, 1, 1]⟩

abbrev nBuf : Space → Nat
  | .hbm => 8
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S64x4096, .f32⟩
  | .hbm, ⟨6, _⟩ => ⟨S1x4096, .f32⟩
  | .hbm, ⟨7, _⟩ => ⟨S4096x1, .f32⟩
  | .local _ .vmem, ⟨0, _⟩ => ⟨S4096x64, .f32⟩
  | .local _ .vmem, ⟨1, _⟩ => ⟨S64x4096, .f32⟩
  | .local _ .vmem, ⟨2, _⟩ => ⟨S4096x1, .f32⟩
  | .local _ .vmem, ⟨3, _⟩ => ⟨S1x4096, .f32⟩
  | .local _ .vmem, ⟨4, _⟩ => ⟨S4096x1, .f32⟩
  | .local _ .vmem, ⟨5, _⟩ => ⟨S4096x4096, .i8⟩
  | .local _ .vmem, ⟨6, _⟩ => ⟨S4096x1, .f32⟩
  | .local _ .vmem, ⟨7, _⟩ => ⟨S4096x1, .f32⟩
  | .local _ .vmem, ⟨8, _⟩ => ⟨S4096x1, .f32⟩
  | .local _ .vmem, ⟨9, _⟩ => ⟨S4096x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_scratch4 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c8_i32 : BitVec 32 := 8#32
  let v7 : BitVec 32 := Scalar.addi c0_i32 c8_i32
  let c1_i32 : BitVec 32 := 1#32
  ⟨c0_i32, v7, c1_i32⟩
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32 : BitVec 32 := 512#32
  let v46 : BitVec 32 := Scalar.muli arg10 c512_i32
  let v47 : Index := Scalar.indexCast v46
  let c0_31 : Index := 0#32
  ![v47.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32_34 : BitVec 32 := 512#32
  let v53 : BitVec 32 := Scalar.muli arg10 c512_i32_34
  let v54 : Index := Scalar.indexCast v53
  let c0_35 : Index := 0#32
  ![v54.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c512_i32_37 : BitVec 32 := 512#32
  let v64 : BitVec 32 := Scalar.muli arg10 c512_i32_37
  let v65 : Index := Scalar.indexCast v64
  let c0_38 : Index := 0#32
  ![v65.toNat, 0]
@[reducible] def k0_t2_loop : Scf.Loop 32 :=
  let c0_i32_38 : BitVec 32 := 0#32
  let c8_i32_39 : BitVec 32 := 8#32
  let v58 : BitVec 32 := Scalar.addi c0_i32_38 c8_i32_39
  let c1_i32_40 : BitVec 32 := 1#32
  ⟨c0_i32_38, v58, c1_i32_40⟩
def k0_off4 (k0_t2 : Fin k0_t2_loop.trips) : Fin 2 → Nat :=
  let c0_i32_38 : BitVec 32 := 0#32
  let c1_i32_40 : BitVec 32 := 1#32
  let arg14 : BitVec 32 := Scf.iv c0_i32_38 c1_i32_40 k0_t2
  let c512_i32 : BitVec 32 := 512#32
  let v78 : BitVec 32 := Scalar.muli arg14 c512_i32
  let v79 : Index := Scalar.indexCast v78
  let c0_51 : Index := 0#32
  ![v79.toNat, 0]
def k0_off5 (k0_t2 : Fin k0_t2_loop.trips) : Fin 2 → Nat :=
  let c0_i32_38 : BitVec 32 := 0#32
  let c1_i32_40 : BitVec 32 := 1#32
  let arg14 : BitVec 32 := Scf.iv c0_i32_38 c1_i32_40 k0_t2
  let c512_i32_52 : BitVec 32 := 512#32
  let v82 : BitVec 32 := Scalar.muli arg14 c512_i32_52
  let v83 : Index := Scalar.indexCast v82
  let c0_53 : Index := 0#32
  ![v83.toNat, 0]
@[reducible] def k0_t3_loop : Scf.Loop 32 :=
  let c0_i32_18 : BitVec 32 := 0#32
  let c8_i32_19 : BitVec 32 := 8#32
  let v33 : BitVec 32 := Scalar.addi c0_i32_18 c8_i32_19
  let c1_i32_20 : BitVec 32 := 1#32
  ⟨c0_i32_18, v33, c1_i32_20⟩
def k0_off6 (k0_t3 : Fin k0_t3_loop.trips) : Fin 2 → Nat :=
  let c0_i32_18 : BitVec 32 := 0#32
  let c1_i32_20 : BitVec 32 := 1#32
  let arg10 : BitVec 32 := Scf.iv c0_i32_18 c1_i32_20 k0_t3
  let c512_i32 : BitVec 32 := 512#32
  let v46 : BitVec 32 := Scalar.muli arg10 c512_i32
  let v47 : Index := Scalar.indexCast v46
  let c0_31 : Index := 0#32
  ![v47.toNat, 0]
@[reducible] def k0_t4_loop : Scf.Loop 32 :=
  let c0_i32_27 : BitVec 32 := 0#32
  let c8_i32_28 : BitVec 32 := 8#32
  let v45 : BitVec 32 := Scalar.addi c0_i32_27 c8_i32_28
  let c1_i32_29 : BitVec 32 := 1#32
  ⟨c0_i32_27, v45, c1_i32_29⟩
def k0_off7 (k0_t4 : Fin k0_t4_loop.trips) : Fin 2 → Nat :=
  let c0_i32_27 : BitVec 32 := 0#32
  let c1_i32_29 : BitVec 32 := 1#32
  let arg10 : BitVec 32 := Scf.iv c0_i32_27 c1_i32_29 k0_t4
  let c512_i32 : BitVec 32 := 512#32
  let v46 : BitVec 32 := Scalar.muli arg10 c512_i32
  let v47 : Index := Scalar.indexCast v46
  let c0_31 : Index := 0#32
  ![v47.toNat, 0]
def k0_off8 (k0_t4 : Fin k0_t4_loop.trips) : Fin 2 → Nat :=
  let c0_i32_27 : BitVec 32 := 0#32
  let c1_i32_29 : BitVec 32 := 1#32
  let arg10 : BitVec 32 := Scf.iv c0_i32_27 c1_i32_29 k0_t4
  let c512_i32_34 : BitVec 32 := 512#32
  let v56 : BitVec 32 := Scalar.muli arg10 c512_i32_34
  let v57 : Index := Scalar.indexCast v56
  let c0_35 : Index := 0#32
  ![v57.toNat, 0]
abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== KernelIdeal.lean ====
variable {F : FTy → Type} [FloatOps F] [Named F]
def κ : String → Option EReal := fun
  | "root_two" => some ((Real.sqrt 2 : ℝ) : EReal)
  | _ => none
-- ==== ReferenceIdeal.lean ====
abbrev S4096x64 : Shape := ⟨2, ![4096, 64]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S64x4096 : Shape := ⟨2, ![64, 4096]⟩
abbrev S1 : Shape := ⟨1, ![1]⟩
abbrev S1x1 : Shape := ⟨2, ![1, 1]⟩

abbrev nBuf : Space → Nat
  | .hbm => 115
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x64, .f32⟩
  | .hbm, ⟨2, _⟩ => ⟨S_, .f32⟩
  | .hbm, ⟨3, _⟩ => ⟨S4096, .f32⟩
  | .hbm, ⟨4, _⟩ => ⟨S4096x1, .f32⟩
  | .hbm, ⟨5, _⟩ => ⟨S1x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S64x4096, .f32⟩
  | .hbm, ⟨10, _⟩ => ⟨S4096x4096, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .i1⟩
  | .hbm, ⟨18, _⟩ => ⟨S4096x4096, .i32⟩
  | .hbm, ⟨19, _⟩ => ⟨S_, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S4096x1, .i1⟩
  | .hbm, ⟨25, _⟩ => ⟨S4096x4096, .i1⟩
  | .hbm, ⟨26, _⟩ => ⟨S4096x4096, .i1⟩
  | .hbm, ⟨27, _⟩ => ⟨S1x4096, .i1⟩
  | .hbm, ⟨28, _⟩ => ⟨S4096x4096, .i1⟩
  | .hbm, ⟨29, _⟩ => ⟨S4096x4096, .i1⟩
  | .hbm, ⟨30, _⟩ => ⟨S4096, .i32⟩
  | .hbm, ⟨31, _⟩ => ⟨S_, .i32⟩
  | .hbm, ⟨32, _⟩ => ⟨S_, .i32⟩
  | .hbm, ⟨33, _⟩ => ⟨S4096, .i32⟩
  | .hbm, ⟨34, _⟩ => ⟨S4096, .i32⟩
  | .hbm, ⟨35, _⟩ => ⟨S_, .i32⟩
  | .hbm, ⟨36, _⟩ => ⟨S_, .i32⟩
  | .hbm, ⟨37, _⟩ => ⟨S4096x4096, .i1⟩
  | .hbm, ⟨38, _⟩ => ⟨S_, .i32⟩
  | .hbm, ⟨39, _⟩ => ⟨S_, .i32⟩
  | .hbm, ⟨40, _⟩ => ⟨S4096, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S1x4096, .i32⟩
  | .hbm, ⟨46, _⟩ => ⟨S_, .i32⟩
  | .hbm, ⟨47, _⟩ => ⟨S_, .i32⟩
  | .hbm, ⟨48, _⟩ => ⟨S4096x4096, .i32⟩
  | .hbm, ⟨49, _⟩ => ⟨S4096x4096, .i32⟩
  | .hbm, ⟨50, _⟩ => ⟨S4096x4096, .i32⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S_, .i32⟩
  | .hbm, ⟨55, _⟩ => ⟨S_, .i32⟩
  | .hbm, ⟨56, _⟩ => ⟨S4096, .i1⟩
  | .hbm, ⟨57, _⟩ => ⟨S4096, .i1⟩
  | .hbm, ⟨58, _⟩ => ⟨S4096, .i32⟩
  | .hbm, ⟨59, _⟩ => ⟨S_, .i32⟩
  | .hbm, ⟨60, _⟩ => ⟨S_, .i32⟩
  | .hbm, ⟨61, _⟩ => ⟨S4096, .i32⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S_, .i32⟩
  | .hbm, ⟨66, _⟩ => ⟨S4096, .i32⟩
  | .hbm, ⟨67, _⟩ => ⟨S4096, .i32⟩
  | .hbm, ⟨68, _⟩ => ⟨S_, .i32⟩
  | .hbm, ⟨69, _⟩ => ⟨S4096, .i32⟩
  | .hbm, ⟨70, _⟩ => ⟨S4096, .i1⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S4096x1, .i32⟩
  | .hbm, ⟨76, _⟩ => ⟨S1, .i32⟩
  | .hbm, ⟨77, _⟩ => ⟨S_, .i32⟩
  | .hbm, ⟨78, _⟩ => ⟨S4096x1, .i32⟩
  | .hbm, ⟨79, _⟩ => ⟨S4096x1, .i1⟩
  | .hbm, ⟨80, _⟩ => ⟨S1x1, .i32⟩
  | .hbm, ⟨81, _⟩ => ⟨S4096x1, .i32⟩
  | .hbm, ⟨82, _⟩ => ⟨S4096x1, .i1⟩
  | .hbm, ⟨83, _⟩ => ⟨S4096x1, .i1⟩
  | .hbm, ⟨84, _⟩ => ⟨S_, .i1⟩
  | .hbm, ⟨85, _⟩ => ⟨S4096, .i1⟩
  | .hbm, ⟨86, _⟩ => ⟨S4096, .i32⟩
  | .hbm, ⟨87, _⟩ => ⟨S_, .i32⟩
  | .hbm, ⟨88, _⟩ => ⟨S4096, .i32⟩
  | .hbm, ⟨89, _⟩ => ⟨S4096, .i32⟩
  | .hbm, ⟨90, _⟩ => ⟨S_, .i32⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S1x4096, .i32⟩
  | .hbm, ⟨95, _⟩ => ⟨S1x4096, .i1⟩
  | .hbm, ⟨96, _⟩ => ⟨S4096x4096, .i1⟩
  | .hbm, ⟨97, _⟩ => ⟨S4096x4096, .i1⟩
  | .hbm, ⟨98, _⟩ => ⟨S_, .i32⟩
  | .hbm, ⟨99, _⟩ => ⟨S_, .i32⟩
  | .hbm, ⟨100, _⟩ => ⟨S4096x4096, .i32⟩
  | .hbm, ⟨101, _⟩ => ⟨S4096x4096, .i32⟩
  | .hbm, ⟨102, _⟩ => ⟨S4096x4096, .i32⟩
  | .hbm, ⟨103, _⟩ => ⟨S_, .i32⟩
  | .hbm, ⟨104, _⟩ => ⟨S4096, .i32⟩
  | .hbm, ⟨105, _⟩ => ⟨S_, .i32⟩
  | .hbm, ⟨106, _⟩ => ⟨S4096, .i32⟩
  | .hbm, ⟨107, _⟩ => ⟨S4096, .i1⟩
  | .hbm, ⟨108, _⟩ => ⟨S_, .i32⟩
  | .hbm, ⟨109, _⟩ => ⟨S_, .i32⟩
  | .hbm, ⟨110, _⟩ => ⟨S4096, .i32⟩
  | .hbm, ⟨111, _⟩ => ⟨S4096, .i32⟩
  | .hbm, ⟨112, _⟩ => ⟨S4096, .i32⟩
  | .hbm, ⟨113, _⟩ => ⟨S4096, .f32⟩
  | .hbm, ⟨114, _⟩ => ⟨S4096x1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_c_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c_3 : Ref sig .tc := ⟨.hbm, 31, rfl⟩
abbrev main_call0_v0 : Ref sig .tc := ⟨.hbm, 32, rfl⟩
abbrev main_call0_v1 : Ref sig .tc := ⟨.hbm, 33, rfl⟩
abbrev main_v25 : Ref sig .tc := ⟨.hbm, 34, rfl⟩
abbrev main_c_4 : Ref sig .tc := ⟨.hbm, 35, rfl⟩
abbrev main_c_5 : Ref sig .tc := ⟨.hbm, 36, rfl⟩
abbrev main_v26_0 : Ref sig .tc := ⟨.hbm, 37, rfl⟩
abbrev main_v26_1 : Ref sig .tc := ⟨.hbm, 38, rfl⟩
abbrev main_v26_2 : Ref sig .tc := ⟨.hbm, 39, rfl⟩
abbrev main_v26_3 : Ref sig .tc := ⟨.hbm, 40, rfl⟩
abbrev main_while0c_c_16 : Ref sig .tc := ⟨.hbm, 41, rfl⟩
abbrev main_while0c_v49 : Ref sig .tc := ⟨.hbm, 42, rfl⟩
abbrev main_while0b_c_16 : Ref sig .tc := ⟨.hbm, 43, rfl⟩
abbrev main_while0b_v49 : Ref sig .tc := ⟨.hbm, 44, rfl⟩
abbrev main_while0b_v50 : Ref sig .tc := ⟨.hbm, 45, rfl⟩
abbrev main_while0b_c_17 : Ref sig .tc := ⟨.hbm, 46, rfl⟩
abbrev main_while0b_call1_v0 : Ref sig .tc := ⟨.hbm, 47, rfl⟩
abbrev main_while0b_call1_v1 : Ref sig .tc := ⟨.hbm, 48, rfl⟩
abbrev main_while0b_call1_v2 : Ref sig .tc := ⟨.hbm, 49, rfl⟩
abbrev main_while0b_v51 : Ref sig .tc := ⟨.hbm, 50, rfl⟩
abbrev main_while0b_c_18 : Ref sig .tc := ⟨.hbm, 51, rfl⟩
abbrev main_while0b_v52 : Ref sig .tc := ⟨.hbm, 52, rfl⟩
abbrev main_while0b_v53 : Ref sig .tc := ⟨.hbm, 53, rfl⟩
abbrev main_while0b_c_19 : Ref sig .tc := ⟨.hbm, 54, rfl⟩
abbrev main_while0b_v54 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_call2_call0_c : Ref sig .tc := ⟨.hbm, 59, rfl⟩
abbrev main_call2_call0_v0 : Ref sig .tc := ⟨.hbm, 60, rfl⟩
abbrev main_v30 : Ref sig .tc := ⟨.hbm, 61, rfl⟩
abbrev main_c_6 : Ref sig .tc := ⟨.hbm, 62, rfl⟩
abbrev main_v31 : Ref sig .tc := ⟨.hbm, 63, rfl⟩
abbrev main_v32 : Ref sig .tc := ⟨.hbm, 64, rfl⟩
abbrev main_c_7 : Ref sig .tc := ⟨.hbm, 65, rfl⟩
abbrev main_v33 : Ref sig .tc := ⟨.hbm, 66, rfl⟩
abbrev main_v34 : Ref sig .tc := ⟨.hbm, 67, rfl⟩
abbrev main_call3_c : Ref sig .tc := ⟨.hbm, 68, rfl⟩
abbrev main_call3_v0 : Ref sig .tc := ⟨.hbm, 69, rfl⟩
abbrev main_call3_v1 : Ref sig .tc := ⟨.hbm, 70, rfl⟩
abbrev main_call3_c_0 : Ref sig .tc := ⟨.hbm, 71, rfl⟩
abbrev main_call3_v2 : Ref sig .tc := ⟨.hbm, 72, rfl⟩
abbrev main_call3_v3 : Ref sig .tc := ⟨.hbm, 73, rfl⟩
abbrev main_call3_v4 : Ref sig .tc := ⟨.hbm, 74, rfl⟩
abbrev main_call3_v5 : Ref sig .tc := ⟨.hbm, 75, rfl⟩
abbrev main_call3_c_1 : Ref sig .tc := ⟨.hbm, 76, rfl⟩
abbrev main_call3_c_2 : Ref sig .tc := ⟨.hbm, 77, rfl⟩
abbrev main_call3_v6 : Ref sig .tc := ⟨.hbm, 78, rfl⟩
abbrev main_call3_v7 : Ref sig .tc := ⟨.hbm, 79, rfl⟩
abbrev main_call3_v8 : Ref sig .tc := ⟨.hbm, 80, rfl⟩
abbrev main_call3_v9 : Ref sig .tc := ⟨.hbm, 81, rfl⟩
abbrev main_call3_v10 : Ref sig .tc := ⟨.hbm, 82, rfl⟩
abbrev main_call3_v11 : Ref sig .tc := ⟨.hbm, 83, rfl⟩
abbrev main_call3_c_3 : Ref sig .tc := ⟨.hbm, 84, rfl⟩
abbrev main_call3_v12 : Ref sig .tc := ⟨.hbm, 85, rfl⟩
abbrev main_call3_v13 : Ref sig .tc := ⟨.hbm, 86, rfl⟩
abbrev main_call3_c_4 : Ref sig .tc := ⟨.hbm, 87, rfl⟩
abbrev main_call3_v14 : Ref sig .tc := ⟨.hbm, 88, rfl⟩
abbrev main_v35 : Ref sig .tc := ⟨.hbm, 89, rfl⟩
abbrev main_c_8 : Ref sig .tc := ⟨.hbm, 90, rfl⟩
abbrev main_call4_v0 : Ref sig .tc := ⟨.hbm, 91, rfl⟩
abbrev main_call4_v1 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_c_9 : Ref sig .tc := ⟨.hbm, 98, rfl⟩
abbrev main_call5_v0 : Ref sig .tc := ⟨.hbm, 99, rfl⟩
abbrev main_call5_v1 : Ref sig .tc := ⟨.hbm, 100, rfl⟩
abbrev main_call5_v2 : Ref sig .tc := ⟨.hbm, 101, rfl⟩
abbrev main_v41 : Ref sig .tc := ⟨.hbm, 102, rfl⟩
abbrev main_c_10 : Ref sig .tc := ⟨.hbm, 103, rfl⟩
abbrev main_v42 : Ref sig .tc := ⟨.hbm, 104, rfl⟩
abbrev main_c_11 : Ref sig .tc := ⟨.hbm, 105, rfl⟩
abbrev main_v43 : Ref sig .tc := ⟨.hbm, 106, rfl⟩
abbrev main_v44 : Ref sig .tc := ⟨.hbm, 107, rfl⟩
abbrev main_c_12 : Ref sig .tc := ⟨.hbm, 108, rfl⟩
abbrev main_call6_v0 : Ref sig .tc := ⟨.hbm, 109, rfl⟩
abbrev main_call6_v1 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩

abbrev nD : Nat := 1
abbrev τ : Topo := Topo.v7x

variable {F : FTy → Type} [FloatOps F]

abbrev main_while0_count : Scf.Loop 32 := ⟨0#32, 64#32, 1#32⟩
-- ==== Proof.P.Body.lean ====
/-
  The kernel as printed: its body runs, whatever the ten buffers it touches hold.

  Nothing is said here of what the body computes (the frame claim needs none of it): the input buffers come back as
  they were, and the result's buffer and the four scratch buffers in use come back at something. The while is met by
  induction on the sweeps it may still make: its counter starts at 0 and the test stops it at 64.
-/
module

public import proofs.«01_k».proof.Proof.Gen.Kernel.Skeleton
public import proofs.«01_k».proof.Proof.Gen.Kernel.Launch
public import proofs.«01_k».proof.Proof.Gen.Kernel.Points
public import Idealize.ShloMosaic.Lib.Pipeline.Frame
public import Idealize.ShloMosaic.Lib.Tactic

@[expose] public section

set_option maxRecDepth 65536

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

/-- The while is met by counting down the sweeps it may still make. -/
abbrev 𝒱₀ : Variants := Variants.nat

/-- Buffer `b` of core `c`, held whole at contents `f`. -/
abbrev at_ (c : Dev nD) (b : Ref sig .tc) (f : Buf (Elt F) ((c : Thread nD τ).loc b)) : sProp 𝕄 :=
  iprop(((c : Thread nD τ).loc b) ↦{fullShare} f)

/-- Buffer `b` of core `c`, held whole at some contents. -/
abbrev some_ (c : Dev nD) (b : Ref sig .tc) : sProp 𝕄 :=
  iprop(∃ f : Buf (Elt F) ((c : Thread nD τ).loc b), at_ c b f)

/-- The whole of a column of 4096 numbers. -/
abbrev rW : Rect S4096x1 := Rect.unit (s := S4096x1) ![0, 0] S4096x1.size inb_S4096x1_S4096x1_0_0

variable (c : Dev nD) (bd : Option 𝒱₀.V) (E : Set ℕ)

/-- Loop 1 (the adjacency and the degrees), any number of trips. -/
theorem run_t1 (f0 : Buf (Elt F) ((c : Thread nD τ).loc cc0_stg0_0)) (f2 : Buf (Elt F) ((c : Thread nD τ).loc cc0_stg2_0))
    (v0 : Vec F S64x4096 .f32) (v5 : Vec F S1x4096 .f32) (k : Fin k0_t1_loop.trips) (acc : Unit) :
    iprop(at_ c cc0_stg0_0 f0 ∗ at_ c cc0_stg2_0 f2 ∗ some_ c cc0_scratch0 ∗ some_ c cc0_scratch1)
      ⊢ wp frame (wpE (defs₀ (F := F)) 𝒱₀ (c : Thread nD τ) bd) E
        (k0_t1_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _) v0 v5 k acc)
        fun _ => iprop(at_ c cc0_stg0_0 f0 ∗ at_ c cc0_stg2_0 f2 ∗ some_ c cc0_scratch0 ∗ some_ c cc0_scratch1) := by
  unfold k0_t1_body
  simp only [Prog.lift, Prog.bind_op, Prog.bind_ret, Prog.pure_eq_ret]
  iintro ⟨H0, H2, ⟨%f5, H5⟩, ⟨%f6, H6⟩⟩
  iapply (wp_load 𝒱₀ (c : Thread nD τ) bd E (m := Memref.whole cc0_stg0_0) (Finset.subset_univ _)) $$ H0; iintro H0
  iapply (wp_load 𝒱₀ (c : Thread nD τ) bd E (m := Memref.whole cc0_stg2_0) (Finset.subset_univ _)) $$ H2; iintro H2
  iapply (wp_load 𝒱₀ (c : Thread nD τ) bd E (m := Memref.whole cc0_scratch0) (Finset.subset_univ _)) $$ H5; iintro H5
  iapply (wp_store 𝒱₀ (c : Thread nD τ) bd E (m := Memref.whole cc0_scratch0) (r := Rect.unit (s := S4096x4096) (k0_off3 k) S512x4096.size (k0_off3_inb k)) (Mk := Finset.univ) (Finset.subset_univ _)) $$ H5; iintro H5
  iapply (wp_load 𝒱₀ (c : Thread nD τ) bd E (m := Memref.whole cc0_scratch1) (Finset.subset_univ _)) $$ H6; iintro H6
  iapply (wp_store 𝒱₀ (c : Thread nD τ) bd E (m := Memref.whole cc0_scratch1) (r := Rect.unit (s := S4096x1) (k0_off2 k) S512x1.size (k0_off2_inb k)) (Mk := Finset.univ) (Finset.subset_univ _)) $$ H6; iintro H6
  rw [wp_ret]; imodintro
  isplitl [H0]; · iexact H0
  isplitl [H2]; · iexact H2
  isplitl [H5]; · iexists _; iexact H5
  iexists _; iexact H6

/-- Loop 3 (the ranks of the representatives), any trip: it only reads. -/
theorem run_t3 (f7 : Buf (Elt F) ((c : Thread nD τ).loc cc0_scratch2)) (v23_1 : FVec F S1x4096 .f32) (z : BitVec 32)
    (k : Fin k0_t3_loop.trips) (acc : FVec F S1x4096 .f32) :
    iprop(at_ c cc0_scratch2 f7)
      ⊢ wp frame (wpE (defs₀ (F := F)) 𝒱₀ (c : Thread nD τ) bd) E
        (k0_t3_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _) v23_1 z k acc)
        fun _ => iprop(at_ c cc0_scratch2 f7) := by
  unfold k0_t3_body
  simp only [Prog.lift, Prog.bind_op, Prog.bind_ret, Prog.pure_eq_ret]
  iintro H7
  iapply (wp_load 𝒱₀ (c : Thread nD τ) bd E (m := Memref.whole cc0_scratch2) (Finset.subset_univ _)) $$ H7; iintro H7
  rw [wp_ret]; imodintro
  iexact H7

/-- Loop 4 (the labels), any trip. -/
theorem run_t4 (f5 : Buf (Elt F) ((c : Thread nD τ).loc cc0_scratch0)) (f6 : Buf (Elt F) ((c : Thread nD τ).loc cc0_scratch1))
    (f8 : Buf (Elt F) ((c : Thread nD τ).loc cc0_scratch3)) (v11 : IVec S1x4096 1) (v34 : FVec F S1x4096 .f32)
    (k : Fin k0_t4_loop.trips) (acc : Unit) :
    iprop(at_ c cc0_scratch0 f5 ∗ at_ c cc0_scratch1 f6 ∗ at_ c cc0_scratch3 f8 ∗ some_ c cc0_stg4_0)
      ⊢ wp frame (wpE (defs₀ (F := F)) 𝒱₀ (c : Thread nD τ) bd) E
        (k0_t4_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _) v11 v34 k acc)
        fun _ => iprop(at_ c cc0_scratch0 f5 ∗ at_ c cc0_scratch1 f6 ∗ at_ c cc0_scratch3 f8 ∗ some_ c cc0_stg4_0) := by
  unfold k0_t4_body
  simp only [Prog.lift, Prog.bind_op, Prog.bind_ret, Prog.pure_eq_ret]
  iintro ⟨H5, H6, H8, ⟨%f4, H4⟩⟩
  iapply (wp_load 𝒱₀ (c : Thread nD τ) bd E (m := Memref.whole cc0_scratch0) (Finset.subset_univ _)) $$ H5; iintro H5
  iapply (wp_load 𝒱₀ (c : Thread nD τ) bd E (m := Memref.whole cc0_scratch3) (Finset.subset_univ _)) $$ H8; iintro H8
  iapply (wp_load 𝒱₀ (c : Thread nD τ) bd E (m := Memref.whole cc0_scratch1) (Finset.subset_univ _)) $$ H6; iintro H6
  iapply (wp_load 𝒱₀ (c : Thread nD τ) bd E (m := Memref.whole cc0_stg4_0) (Finset.subset_univ _)) $$ H4; iintro H4
  iapply (wp_store 𝒱₀ (c : Thread nD τ) bd E (m := Memref.whole cc0_stg4_0) (r := Rect.unit (s := S4096x1) (k0_off8 k) S512x1.size (k0_off8_inb k)) (Mk := Finset.univ) (Finset.subset_univ _)) $$ H4; iintro H4
  rw [wp_ret]; imodintro
  isplitl [H5]; · iexact H5
  isplitl [H6]; · iexact H6
  isplitl [H8]; · iexact H8
  iexists _; iexact H4

/-! ## The while -/

/-- What a sweep holds: the adjacency at its contents and the working vector at something. -/
def sweepHeld (f5 : Buf (Elt F) ((c : Thread nD τ).loc cc0_scratch0)) : sProp 𝕄 :=
  iprop(at_ c cc0_scratch0 f5 ∗ some_ c cc0_scratch2)

/-- The while's label hands back what it was given, and some values. -/
def spec (f5 : Buf (Elt F) ((c : Thread nD τ).loc cc0_scratch0)) :
    sWPT 𝕄 (BitVec 32 × FVec F S1x4096 .f32 × FVec F S4096x1 .f32 × BitVec 1) := do
  sWPT.consume (sweepHeld c f5)
  let r ← sWPT.arbitrary
  sWPT.produce (sweepHeld c f5)
  pure r

theorem spec_apply (f5 : Buf (Elt F) ((c : Thread nD τ).loc cc0_scratch0))
    (K : BitVec 32 × FVec F S1x4096 .f32 × FVec F S4096x1 .f32 × BitVec 1 → sProp 𝕄) :
    spec c f5 K = iprop(sweepHeld c f5 ∗ ∀ r, (sweepHeld c f5 -∗ K r)) := rfl

/-- The counter's test at a count. -/
theorem slt_64 (j : ℕ) (hj : j ≤ 64) : Scalar.cmpi .slt (BitVec.ofNat 32 j) 64#32 = if j < 64 then 1#1 else 0#1 := by
  have h : ∀ j : Fin 65, Scalar.cmpi .slt (BitVec.ofNat 32 j.val) 64#32 = if j.val < 64 then 1#1 else 0#1 := by decide
  exact h ⟨j, by omega⟩

theorem addi_one (j : ℕ) (hj : j < 64) : Scalar.addi (BitVec.ofNat 32 j) 1#32 = BitVec.ofNat 32 (j + 1) := by
  have h : ∀ j : Fin 64, Scalar.addi (BitVec.ofNat 32 j.val) 1#32 = BitVec.ofNat 32 (j.val + 1) := by decide
  exact h ⟨j, hj⟩

theorem andi_zero (x : BitVec 1) : ¬ (Scalar.andi x 0#1 = 1#1) := by revert x; decide
theorem andi_one (x : BitVec 1) : Scalar.andi x 1#1 = x := by revert x; decide

/-- The label's body meets its specification at every counter up to 64, by induction on the sweeps left. -/
theorem spec_le (f5 : Buf (Elt F) ((c : Thread nD τ).loc cc0_scratch0)) (v14 : IVec S4096x1 1) (v11 : IVec S1x4096 1) :
    ∀ k j, j + k = 64 → ∀ (row : FVec F S1x4096 .f32) (col : FVec F S4096x1 .f32) (go : BitVec 1) K, spec c f5 K
      ⊢ wp frame (wpE (defs₀ (F := F)) 𝒱₀ (c : Thread nD τ) (some k)) E
          (defs₀ (F := F) .tc 1 ⟨v14, Memref.whole cc0_scratch2, Memref.isWhole_whole _, v11, Memref.whole cc0_scratch0,
            Memref.isWhole_whole _, BitVec.ofNat 32 j, row, col, go⟩) K := by
  intro k
  induction k with
  | zero =>
    intro j hj row col go K
    have hj64 : j = 64 := hj
    rw [spec_apply]
    show _ ⊢ wp frame (wpE (defs₀ (F := F)) 𝒱₀ (c : Thread nD τ) (some 0)) E
      (cc0_while1 v14 (Memref.whole cc0_scratch2) (Memref.isWhole_whole _) v11 (Memref.whole cc0_scratch0)
            (Memref.isWhole_whole _) (BitVec.ofNat 32 j) row col go) K
    simp only [cc0_while1_eq_skeleton]; unfold cc0_while1_skel
    have h64 : Scalar.cmpi .slt (BitVec.ofNat 32 j) 64#32 = 0#1 := by rw [slt_64 j (by omega)]; exact if_neg (by omega)
    simp only [h64, andi_zero, ↓reduceIte, Prog.pure_eq_ret]
    iintro ⟨H, Hk⟩
    rw [wp_ret]; imodintro
    iapply Hk
    iexact H
  | succ k ih =>
    intro j hj row col go K
    rw [spec_apply]
    show _ ⊢ wp frame (wpE (defs₀ (F := F)) 𝒱₀ (c : Thread nD τ) (some (k + 1))) E
      (cc0_while1 v14 (Memref.whole cc0_scratch2) (Memref.isWhole_whole _) v11 (Memref.whole cc0_scratch0)
            (Memref.isWhole_whole _) (BitVec.ofNat 32 j) row col go) K
    simp only [cc0_while1_eq_skeleton]; unfold cc0_while1_skel
    have h64 : Scalar.cmpi .slt (BitVec.ofNat 32 j) 64#32 = 1#1 := by rw [slt_64 j (by omega)]; exact if_pos (by omega)
    simp only [h64, andi_one]
    by_cases hgo : go = 1#1
    · simp only [hgo, ↓reduceIte, Prog.lift, Prog.bind_op, Prog.bind_ret, Prog.pure_eq_ret]
      unfold sweepHeld
      iintro ⟨⟨H5, ⟨%f7, H7⟩⟩, Hk⟩
      iapply (wp_load 𝒱₀ (c : Thread nD τ) (some (k + 1)) E (m := Memref.whole cc0_scratch2) (Finset.subset_univ _)) $$ H7; iintro H7
      iapply (wp_store 𝒱₀ (c : Thread nD τ) (some (k + 1)) E (m := Memref.whole cc0_scratch2) (r := rW) (Mk := Finset.univ) (Finset.subset_univ _)) $$ H7; iintro H7
      ihave Hin : iprop(at_ c cc0_scratch0 f5 ∗ some_ c cc0_scratch2) $$ [H5 H7]
      · isplitl [H5]; · iexact H5
        iexists _; iexact H7
      iapply (Scf.wp_for_bind frame (wpE (defs₀ (F := F)) 𝒱₀ (c : Thread nD τ) (some (k + 1))) E _ _ _ _ _ _
        (fun _ _ => iprop(at_ c cc0_scratch0 f5 ∗ some_ c cc0_scratch2)) (by
          intro t acc
          iintro ⟨H5, ⟨%f7, H7⟩⟩
          iapply (wp_load 𝒱₀ (c : Thread nD τ) (some (k + 1)) E (m := Memref.whole cc0_scratch0) (Finset.subset_univ _)) $$ H5; iintro H5
          iapply (wp_load 𝒱₀ (c : Thread nD τ) (some (k + 1)) E (m := Memref.whole cc0_scratch2) (Finset.subset_univ _)) $$ H7; iintro H7
          iapply (wp_load 𝒱₀ (c : Thread nD τ) (some (k + 1)) E (m := Memref.whole cc0_scratch2) (Finset.subset_univ _)) $$ H7; iintro H7
          iapply (wp_store 𝒱₀ (c : Thread nD τ) (some (k + 1)) E (m := Memref.whole cc0_scratch2) (r := Rect.unit (s := S4096x1) (k0_off5 t) S512x1.size (k0_off5_inb t)) (Mk := Finset.univ) (Finset.subset_univ _)) $$ H7; iintro H7
          rw [wp_ret]; imodintro
          isplitl [H5]; · iexact H5
          iexists _; iexact H7)) $$ Hin
      iintro %acc ⟨H5, ⟨%f7', H7⟩⟩
      simp only [Prog.lift, Prog.bind_op, Prog.bind_ret, Prog.pure_eq_ret]
      iapply (wp_load 𝒱₀ (c : Thread nD τ) (some (k + 1)) E (m := Memref.whole cc0_scratch2) (Finset.subset_univ _)) $$ H7; iintro H7
      rw [addi_one j (by omega)]
      iapply (wp_call_spec 𝒱₀ (c : Thread nD τ) (some (k + 1)) E (spec c f5) k
        (fun u hu => by cases hu; exact Nat.lt_succ_self k) (ih (j + 1) (by omega) _ _ _))
      rw [spec_apply]; unfold sweepHeld
      isplitl [H5 H7]
      · isplitl [H5]; · iexact H5
        iexists _; iexact H7
      iintro %r H
      rw [wp_ret]; imodintro
      iapply Hk
      iexact H
    · simp only [hgo, ↓reduceIte, Prog.pure_eq_ret]
      iintro ⟨H, Hk⟩
      rw [wp_ret]; imodintro
      iapply Hk
      iexact H

/-! ## The body -/

/-- The whole body, from the four inputs at their contents and the other buffers at anything. -/
theorem run_body (f0 : Buf (Elt F) ((c : Thread nD τ).loc cc0_stg0_0)) (f1 : Buf (Elt F) ((c : Thread nD τ).loc cc0_stg1_0))
    (f2 : Buf (Elt F) ((c : Thread nD τ).loc cc0_stg2_0)) (f3 : Buf (Elt F) ((c : Thread nD τ).loc cc0_stg3_0)) (K : PUnit → sProp 𝕄) :
    iprop((at_ c cc0_stg0_0 f0 ∗ at_ c cc0_stg1_0 f1 ∗ at_ c cc0_stg2_0 f2 ∗ at_ c cc0_stg3_0 f3 ∗ some_ c cc0_stg4_0
        ∗ some_ c cc0_scratch0 ∗ some_ c cc0_scratch1 ∗ some_ c cc0_scratch2 ∗ some_ c cc0_scratch3)
      ∗ ((at_ c cc0_stg0_0 f0 ∗ at_ c cc0_stg1_0 f1 ∗ at_ c cc0_stg2_0 f2 ∗ at_ c cc0_stg3_0 f3 ∗ some_ c cc0_stg4_0
        ∗ some_ c cc0_scratch0 ∗ some_ c cc0_scratch1 ∗ some_ c cc0_scratch2 ∗ some_ c cc0_scratch3) -∗ K ⟨⟩))
      ⊢ wp frame (wpE (defs₀ (F := F)) 𝒱₀ (c : Thread nD τ) none) E
        (cc0__dbscan_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)) K := by
  simp only [cc0__dbscan_body_eq_skeleton]; unfold cc0__dbscan_body_skel
  simp only [k0_part1_eq_skeleton]; unfold k0_part1_skel
  simp only [Prog.lift, Prog.bind_op, Prog.bind_ret, Prog.pure_eq_ret, bind_assoc]
  iintro ⟨⟨H0, H1, H2, H3, H4, H5, H6, ⟨%f7, H7⟩, ⟨%f8, H8⟩⟩, Hk⟩
  iapply (wp_load 𝒱₀ (c : Thread nD τ) none E (m := Memref.whole cc0_stg1_0) (Finset.subset_univ _)) $$ H1; iintro H1
  iapply (wp_load 𝒱₀ (c : Thread nD τ) none E (m := Memref.whole cc0_stg3_0) (Finset.subset_univ _)) $$ H3; iintro H3
  ihave Hin : iprop(at_ c cc0_stg0_0 f0 ∗ at_ c cc0_stg2_0 f2 ∗ some_ c cc0_scratch0 ∗ some_ c cc0_scratch1) $$ [H0 H2 H5 H6]
  · isplitl [H0]; · iexact H0
    isplitl [H2]; · iexact H2
    isplitl [H5]; · iexact H5
    iexact H6
  iapply (Scf.wp_for_bind frame (wpE (defs₀ (F := F)) 𝒱₀ (c : Thread nD τ) none) E _ _ _ _ _ _
    (fun _ _ => iprop(at_ c cc0_stg0_0 f0 ∗ at_ c cc0_stg2_0 f2 ∗ some_ c cc0_scratch0 ∗ some_ c cc0_scratch1))
    (fun t acc => run_t1 c none E f0 f2 _ _ t acc)) $$ Hin
  iintro %acc ⟨H0, H2, ⟨%f5, H5⟩, ⟨%f6, H6⟩⟩
  simp only [Prog.lift, Prog.bind_op, Prog.bind_ret, Prog.pure_eq_ret]
  iapply (wp_load 𝒱₀ (c : Thread nD τ) none E (m := Memref.whole cc0_scratch1) (Finset.subset_univ _)) $$ H6; iintro H6
  iapply (wp_load 𝒱₀ (c : Thread nD τ) none E (m := Memref.whole cc0_scratch1) (Finset.subset_univ _)) $$ H6; iintro H6
  iapply (wp_call_spec 𝒱₀ (c : Thread nD τ) none E (spec c f5) 64
    (fun u hu => nomatch hu) (spec_le c E f5 _ _ 64 0 rfl _ _ _))
  rw [spec_apply]; unfold sweepHeld
  isplitl [H5 H7]
  · isplitl [H5]; · iexact H5
    iexists _; iexact H7
  iintro %r ⟨H5, ⟨%f7, H7⟩⟩
  simp only [Prog.lift, Prog.bind_op, Prog.bind_ret, Prog.pure_eq_ret]
  iapply (wp_load 𝒱₀ (c : Thread nD τ) none E (m := Memref.whole cc0_scratch2) (Finset.subset_univ _)) $$ H7; iintro H7
  iapply (wp_store 𝒱₀ (c : Thread nD τ) none E (m := Memref.whole cc0_scratch2) (r := rW) (Mk := Finset.univ) (Finset.subset_univ _)) $$ H7; iintro H7
  iapply (Scf.wp_for_bind frame (wpE (defs₀ (F := F)) 𝒱₀ (c : Thread nD τ) none) E _ _ _ _ _ _
    (fun _ _ => iprop(at_ c cc0_scratch2 _)) (fun t acc => run_t3 c none E _ _ _ t acc)) $$ H7
  iintro %v34 H7
  simp only [Prog.lift, Prog.bind_op, Prog.bind_ret, Prog.pure_eq_ret]
  iapply (wp_load 𝒱₀ (c : Thread nD τ) none E (m := Memref.whole cc0_scratch3) (Finset.subset_univ _)) $$ H8; iintro H8
  iapply (wp_store 𝒱₀ (c : Thread nD τ) none E (m := Memref.whole cc0_scratch3) (r := rW) (Mk := Finset.univ) (Finset.subset_univ _)) $$ H8; iintro H8
  ihave Hin : iprop(at_ c cc0_scratch0 f5 ∗ at_ c cc0_scratch1 f6 ∗ at_ c cc0_scratch3 _ ∗ some_ c cc0_stg4_0) $$ [H5 H6 H8 H4]
  · isplitl [H5]; · iexact H5
    isplitl [H6]; · iexact H6
    isplitl [H8]; · iexact H8
    iexact H4
  iapply (Scf.wp_for_bind frame (wpE (defs₀ (F := F)) 𝒱₀ (c : Thread nD τ) none) E _ _ _ _ _ _
    (fun _ _ => iprop(at_ c cc0_scratch0 f5 ∗ at_ c cc0_scratch1 f6 ∗ at_ c cc0_scratch3 _ ∗ some_ c cc0_stg4_0))
    (fun t acc => run_t4 c none E f5 f6 _ _ _ t acc)) $$ Hin
  iintro %acc' ⟨H5, H6, H8, H4⟩
  rw [wp_ret]; imodintro
  iapply Hk
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  iexists _; iexact H8

end Cert.Proof.P

end
-- ==== Proof.P.Run.lean ====
/-
  The kernel as printed: the frame. From any memory with zero counters every run of @main ends, the points array is as
  it was launched, and every counter is zero again. The result's window is left out of account: its contents are not
  named.
-/
module

public import proofs.«01_k».proof.Proof.P.Body
public import Idealize.ShloMosaic.PureOps.BitExact

@[expose] public section

noncomputable section

namespace Cert.Proof.P

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers as the region finds them: the launch contents after the host's operations. -/
def V (c : Dev nD) (b : Ref sig .tc) : Buf (Elt F) ((c.tc : Thread nD τ).loc b) :=
  StableHlo.after hostOps0 (fun b => m (c, b)) b

/-- No host operation writes the points. -/
theorem V_main_arg0 (c : Dev nD) : V m c main_arg0 = m ((c.tc : Thread nD τ).loc main_arg0) :=
  StableHlo.after_of_forall_not_mem (b := Proc.devRef .tc main_arg0) _ _ (by
    intro op h
    simp only [hostOps0, List.mem_cons, List.not_mem_nil, or_false] at h
    rcases h with rfl | rfl | rfl | rfl | rfl | rfl <;> (refine Finset.notMem_singleton.mpr ?_; decide))

theorem hmain : Pipeline.HMain (Ix := Unit) (Name := ℕ) (U := UR sig nD τ) (Lvl := ℕ) (cfgs (F := F)) (0 : Fin 1) defs₀ 𝒱₀ m
    (main (F := F)) (V m) :=
  Pipeline.hmain_prefix (cfgs (F := F)) (0 : Fin 1) defs₀ 𝒱₀ m (main (F := F)) hostOps0 hostOps0_sub
    (by repeat' constructor) main_chain

/-- Window `w`'s block, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's window is the one forgotten. -/
def fgt : Fin (cfg0 (F := F)).W → Bool
  | ⟨4, _⟩ => true
  | _ => false

/-- The proof data: the arrays as the region finds them, each input's buffer left at its block, nothing said of the
    result. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed ⟨4, h⟩ t
  Φ _ := Pipeline.ΦA spec0 c
  q _ := fullShare
  owed _ := 0

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ at_ c b f) := by
  unfold owns; simp only [Memref.view_whole, View.read_whole, View.set_whole]

/-- The pipeline's obligation at the one point: the body runs from the fetched inputs and leaves them as they were. -/
theorem body_obligation (c : Dev nD) :
    BodyObligationLoose (dats (F := F) m 0 c) (defs₀ (F := F)) 𝒱₀ () Set.univ fgt := fun t => by
  rw [fin_N0 t, bigSep_W0, bigSep_W0]
  sl_whnfR [defs₀, Defs.onTc]
  simp only [show fgt (F := F) (4 : Fin 5) = true from rfl, show fgt (F := F) (0 : Fin 5) = false from rfl,
    show fgt (F := F) (1 : Fin 5) = false from rfl, show fgt (F := F) (2 : Fin 5) = false from rfl,
    show fgt (F := F) (3 : Fin 5) = false from rfl]
  simp only [owns_whole_eq]
  rw [show (dats m 0 c).Φ (t0_0).succ = Pipeline.ΦA spec0 c from rfl, show (dats m 0 c).Φ (t0_0).castSucc = Pipeline.ΦA spec0 c from rfl,
    show (dats m 0 c).owesAt () (t0_0).succ = (dats m 0 c).owesAt () (t0_0).castSucc from rfl]
  unfold Pipeline.ΦA
  rw [scopedRest0_eq]
  iintro ⟨⟨⟨S0, S1, S2, S3, S4⟩, Hg⟩, Ho, ⟨%d0, %g0, %h0, H0⟩, ⟨%d1, %g1, %h1, H1⟩, ⟨%d2, %g2, %h2, H2⟩, ⟨%d3, %g3, %h3, H3⟩, ⟨%d4, %g4, %h4, H4⟩⟩
  iapply (run_body c Set.univ g0 g1 g2 g3)
  isplitl [H0 H1 H2 H3 H4 S0 S1 S2 S3]
  · isplitl [H0]; · iexact H0
    isplitl [H1]; · iexact H1
    isplitl [H2]; · iexact H2
    isplitl [H3]; · iexact H3
    isplitl [H4]; · iexists _; iexact H4
    isplitl [S0]; · iexact S0
    isplitl [S1]; · iexact S1
    isplitl [S2]; · iexact S2
    iexact S3
  iintro ⟨H0, H1, H2, H3, ⟨%f4, H4⟩, S0, S1, S2, S3⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    · iexact Hg
  isplitl [Ho]; · iexact Ho
  isplitl [H0]
  · iexists g0; isplitr; swap; · iexact H0
    ipureintro; exact h0.trans (((dats m 0 c).before_fetched 0 t0_0 (fetch0_0 t0_0) d0).trans rfl)
  isplitl [H1]
  · iexists g1; isplitr; swap; · iexact H1
    ipureintro; exact h1.trans (((dats m 0 c).before_fetched 1 t0_0 (fetch0_1 t0_0) d1).trans rfl)
  isplitl [H2]
  · iexists g2; isplitr; swap; · iexact H2
    ipureintro; exact h2.trans (((dats m 0 c).before_fetched 2 t0_0 (fetch0_2 t0_0) d2).trans rfl)
  isplitl [H3]
  · iexists g3; isplitr; swap; · iexact H3
    ipureintro; exact h3.trans (((dats m 0 c).before_fetched 3 t0_0 (fetch0_3 t0_0) d3).trans rfl)
  iexists f4, f4; isplitr; swap; · iexact H4
  ipureintro; rfl

set_option backward.isDefEq.respectTransparency.types false in
/-- The run of @main: it ends, the inputs' arrays as the region found them, every counter at zero. -/
theorem run_main : θ_run defs (onTc (τ := τ) (main (F := F))) (s₀ m ρ)
    (fun r => Pipeline.RDat.FramePost (cfg0 (F := F)) (fun c => (dats m 0 c).toRForget fgt) (V m) r ∧ r.2.sem = fun _ => 0) :=
  Pipeline.θ_run_frame_forget (Q' := _) (cfgs (F := F)) (dats m) (0 : Fin 1) launch0 defs₀ 𝒱₀ fgt m ρ main
    (hbody := fun c => body_obligation m c) (hshare := fun c => (dats m 0 c).share_full fun _ => rfl)
    (howed := fun _ _ => rfl) (V := V m) (hmain := hmain m) (hA := fun _ _ => rfl) (hΦ := fun _ _ => rfl)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r (h : _ ∧ _) => ⟨fun c => (h.1.arr_in c 0 rfl).trans (V_main_arg0 m c), h.2⟩) (run_main m ρ)

end Cert.Proof.P

end
-- ==== Proof.PI.Blocks.lean ====
/-
  An array of 4096 rows as eight blocks of 512 rows: the block `k` of an array, an array put together from its blocks,
  and what a load or a store of the rows from `512 * k` on does to the blocks.
-/
module

public import proofs.«01_k».proof.Proof.Gen.KernelIdeal
public import Idealize.ShloMosaic.Lib.VecWindow
public import Idealize.ShloMosaic.Lib.Pointwise.Index

@[expose] public section

noncomputable section

namespace Cert.Proof.PI

open Idealize.ShloMosaic

/-- Arrays of 4096 rows and `d` columns. -/
abbrev Tall (d : ℕ) : Shape := ⟨2, ![4096, d]⟩
/-- Blocks of 512 rows and `d` columns. -/
abbrev Blk (d : ℕ) : Shape := ⟨2, ![512, d]⟩

section
variable {d : ℕ} {α : Type}

/-- Row `x` of block `k` is row `512 * k + x` of the array. -/
def place (k : Fin 8) (x : (Blk d).Idx) : (Tall d).Idx :=
  ix2 (n0 := 4096) (n1 := d) ⟨512 * k.val + (x (0 : Fin 2)).val, by
    have h : (x (0 : Fin 2)).val < 512 := (x (0 : Fin 2)).isLt
    have := k.isLt
    omega⟩ (x (1 : Fin 2))

/-- The block that holds a row. -/
def blkOf (y : (Tall d).Idx) : Fin 8 := ⟨(y (0 : Fin 2)).val / 512, by
  have h : (y (0 : Fin 2)).val < 4096 := (y (0 : Fin 2)).isLt
  omega⟩

/-- Where in its block a row lies. -/
def within (y : (Tall d).Idx) : (Blk d).Idx :=
  ix2 (n0 := 512) (n1 := d) ⟨(y (0 : Fin 2)).val % 512, Nat.mod_lt _ (by norm_num)⟩ (y (1 : Fin 2))

theorem place_blkOf (y : (Tall d).Idx) : place (blkOf y) (within y) = y := by
  funext a
  refine Fin.ext ?_
  fin_cases a
  · show 512 * ((y (0 : Fin 2)).val / 512) + (y (0 : Fin 2)).val % 512 = (y (0 : Fin 2)).val
    omega
  · rfl

theorem blkOf_place (k : Fin 8) (x : (Blk d).Idx) : blkOf (place k x) = k := by
  refine Fin.ext ?_
  have h : (x (0 : Fin 2)).val < 512 := (x (0 : Fin 2)).isLt
  show (512 * k.val + (x (0 : Fin 2)).val) / 512 = k.val
  omega

theorem within_place (k : Fin 8) (x : (Blk d).Idx) : within (place k x) = x := by
  have h : (x (0 : Fin 2)).val < 512 := (x (0 : Fin 2)).isLt
  funext a
  refine Fin.ext ?_
  fin_cases a
  · show (512 * k.val + (x (0 : Fin 2)).val) % 512 = (x (0 : Fin 2)).val
    omega
  · rfl

/-- Block `k` of an array. -/
def part (k : Fin 8) (f : (Tall d).Idx → α) : (Blk d).Idx → α := fun x => f (place k x)

/-- The array of the blocks `P`. -/
def glue (P : Fin 8 → (Blk d).Idx → α) : (Tall d).Idx → α := fun y => P (blkOf y) (within y)

theorem part_glue (P : Fin 8 → (Blk d).Idx → α) (k : Fin 8) : part k (glue P) = P k := by
  funext x
  show P (blkOf (place k x)) (within (place k x)) = P k x
  rw [blkOf_place, within_place]

/-- An array whose blocks are `P` is the array of the blocks `P`. -/
theorem eq_glue {f : (Tall d).Idx → α} {P : Fin 8 → (Blk d).Idx → α} (h : ∀ k, part k f = P k) : f = glue P := by
  funext y
  show f y = P (blkOf y) (within y)
  rw [← h (blkOf y)]
  show f y = f (place (blkOf y) (within y))
  rw [place_blkOf]

end

section
variable {sig : RefSig} {κ : Kind} {sp : Space} {d : ℕ} {e : EltTy} {Val : EltTy → Type}

/-- The row `x` of the rectangle of the rows from `512 * k` on is row `x` of block `k`. -/
theorem unit_emb {off : Fin 2 → ℕ} (k : Fin 8) (inb : ∀ a, off a + (Blk d).size a ≤ (Tall d).size a) (hoff : off = ![512 * k.val, 0])
    (x : (Blk d).Idx) : (Rect.unit (s := Tall d) off (Blk d).size inb).emb x = place k x := by
  subst hoff
  funext a
  refine Fin.ext ?_
  fin_cases a
  · show 512 * k.val + 1 * (x (0 : Fin 2)).val = 512 * k.val + (x (0 : Fin 2)).val
    omega
  · show 0 + 1 * (x (1 : Fin 2)).val = (x (1 : Fin 2)).val
    omega

/-- A load of the rows from `512 * k` on reads block `k`. -/
theorem read_part (v : View sig κ sp (Tall d) e) (f : v.ty.Contents Val) {off : Fin 2 → ℕ} (k : Fin 8)
    (inb : ∀ a, off a + (Blk d).size a ≤ (Tall d).size a) (hoff : off = ![512 * k.val, 0]) :
    v.readAt Val (Rect.unit (s := Tall d) off (Blk d).size inb).toLoadRect f = part k (v.read Val f) := by
  funext x
  exact congrArg (v.read Val f) (unit_emb k inb hoff x)

/-- A store of the rows from `512 * k` on replaces block `k` and keeps the others. -/
theorem part_write (v : View sig κ sp (Tall d) e) (f : v.ty.Contents Val) {off : Fin 2 → ℕ} (k b : Fin 8)
    (inb : ∀ a, off a + (Blk d).size a ≤ (Tall d).size a) (hoff : off = ![512 * k.val, 0])
    (w : (Rect.unit (s := Tall d) off (Blk d).size inb).shape.Idx → Val e) :
    part b (v.read Val ((v.slice (Rect.unit (s := Tall d) off (Blk d).size inb)).write Val f w Finset.univ))
      = if b = k then w else part b (v.read Val f) := by
  funext x
  by_cases hb : b = k
  · subst hb
    rw [if_pos rfl]
    show v.read Val _ (place b x) = w x
    rw [← unit_emb b inb hoff x]
    exact View.read_slice_write_emb _ f w (Finset.mem_univ x)
  · rw [if_neg hb]
    refine View.read_slice_write_of_not_mem _ f w _ ?_
    rintro hm
    obtain ⟨z, -, hz⟩ := Finset.mem_map.mp hm
    rw [unit_emb k inb hoff z] at hz
    have := congrArg blkOf hz
    rw [blkOf_place, blkOf_place] at this
    exact hb this.symm

end

end Cert.Proof.PI

end

end
-- ==== Proof.PI.Model.lean ====
/-
  What the ideal kernel's body computes, as functions of its four inputs: the points `A0`, their transpose `A1`, and
  the squared lengths as a column `A2` and as a row `A3`. The numbers are the payloads of the printed body; what is
  added here is which block feeds which.
-/
module

public import proofs.«01_k».proof.Proof.Gen.KernelIdeal.Skeleton
public import proofs.«01_k».proof.Proof.PI.Blocks

@[expose] public section

noncomputable section

namespace Cert.Proof.PI

open Cert.KernelIdeal Cert.KernelIdeal.Gen
open Idealize.ShloMosaic

variable {F : FTy → Type} [FloatOps F] [Named F]

section Inputs
variable (A0 : Vec F S4096x64 .f32) (A1 : Vec F S64x4096 .f32) (A2 : Vec F S4096x1 .f32) (A3 : Vec F S1x4096 .f32)

/-- The adjacency matrix, and the degrees. -/
def adj : Vec F S4096x4096 .i8 := glue (d := 4096) fun k => k0_pay17 A1 A3 (part (d := 64) k A0) (part (d := 1) k A2)
def deg : Vec F S4096x1 .f32 := glue (d := 1) fun k => k0_pay18 A1 A3 (part (d := 64) k A0) (part (d := 1) k A2)
end Inputs

section Sweep
variable (J : Vec F S4096x4096 .i8) (v14 : IVec S4096x1 1) (v11 : IVec S1x4096 1)

/-- The two rows a sweep carries, before its block `k`: from the row `a` and the column `w` as the sweep begins. -/
def carry (w : Vec F S4096x1 .f32) (a : FVec F S1x4096 .f32) : ℕ → FVec F S1x4096 .f32 × FVec F S1x4096 .f32
  | 0 => (a, k0_pay7)
  | k + 1 => if h : k < 8 then
      (k0_pay12 (carry w a k).1 (carry w a k).2 (part (d := 4096) ⟨k, h⟩ J) (part (d := 1) ⟨k, h⟩ w),
       k0_pay11 (carry w a k).1 (carry w a k).2 (part (d := 4096) ⟨k, h⟩ J) (part (d := 1) ⟨k, h⟩ w))
    else carry w a k

/-- The column's block `k` after the sweep. -/
def colBlk (w : Vec F S4096x1 .f32) (a : FVec F S1x4096 .f32) (k : Fin 8) : Vec F S512x1 .f32 :=
  k0_pay10 (carry J w a k.val).1 (part (d := 4096) k J) (part (d := 1) k w)

/-- One sweep of the row, the column and the flag that says whether the row moved. -/
def sweepRow (row : FVec F S1x4096 .f32) (col : FVec F S4096x1 .f32) : FVec F S1x4096 .f32 :=
  k0_pay13 row (carry J (k0_pay5 v14 col) (k0_pay6 v11 row) 8).2
def sweepCol (row : FVec F S1x4096 .f32) (col : FVec F S4096x1 .f32) : FVec F S4096x1 .f32 :=
  k0_pay14 v14 col (glue (d := 1) (colBlk J (k0_pay5 v14 col) (k0_pay6 v11 row)))
def sweepGo (row : FVec F S1x4096 .f32) (col : FVec F S4096x1 .f32) : BitVec 1 :=
  Scalar.cmpf .ogt (k0_pay15 v11 row (carry J (k0_pay5 v14 col) (k0_pay6 v11 row) 8).2) (Scalar.ofBits .f32 0x00000000#32)

/-- At most `n` sweeps, stopped by the flag. -/
def sweeps : ℕ → FVec F S1x4096 .f32 → FVec F S4096x1 .f32 → BitVec 1 → FVec F S1x4096 .f32 × FVec F S4096x1 .f32 × BitVec 1
  | 0, row, col, go => (row, col, go)
  | n + 1, row, col, go => if go = 1#1 then
      sweeps n (sweepRow J v14 v11 row col) (sweepCol J v14 v11 row col) (sweepGo J v14 v11 row col)
    else (row, col, go)

end Sweep

/-- The running count of the representatives, before block `k`. -/
def ranks (row : FVec F S1x4096 .f32) (rep : Vec F S4096x1 .f32) : ℕ → FVec F S1x4096 .f32
  | 0 => k0_pay25
  | k + 1 => if h : k < 8 then k0_pay1 row 0#32 ⟨k, h⟩ (ranks row rep k) (part (d := 1) ⟨k, h⟩ rep) else ranks row rep k

/-- The labels from the adjacency, the degrees, the cores and the ranks. -/
def labels (J : Vec F S4096x4096 .i8) (D : Vec F S4096x1 .f32) (v11 : IVec S1x4096 1) (rk : FVec F S1x4096 .f32) : Vec F S4096x1 .f32 :=
  glue (d := 1) fun k => k0_pay4 v11 rk (part (d := 4096) k J) (part (d := 1) k (k0_pay3 rk)) (part (d := 1) k D)

/-- What the while hands back. -/
def settledState (J : Vec F S4096x4096 .i8) (D : Vec F S4096x1 .f32) : FVec F S1x4096 .f32 × FVec F S4096x1 .f32 × BitVec 1 :=
  sweeps J (k0_pay20 D) (k0_pay19 D) 64 (k0_pay22 D) (k0_pay23 D) 1#1

/-- The result from the adjacency and the degrees. -/
def outOf (J : Vec F S4096x4096 .i8) (D : Vec F S4096x1 .f32) : Vec F S4096x1 .f32 :=
  labels J D (k0_pay19 D) (ranks (settledState J D).1 (k0_pay24 D (settledState J D).2.1) 8)

/-- The result from the four inputs. -/
def bodyOut (A0 : Vec F S4096x64 .f32) (A1 : Vec F S64x4096 .f32) (A2 : Vec F S4096x1 .f32) (A3 : Vec F S1x4096 .f32) : Vec F S4096x1 .f32 :=
  outOf (adj A0 A1 A2 A3) (deg A0 A1 A2 A3)

end Cert.Proof.PI

end

end
-- ==== Proof.PI.Body.lean ====
/-
  The ideal kernel's body runs, and what it leaves: the input buffers come back as they were, and the result's buffer
  comes back at `bodyOut` of the four inputs, whatever the result's and the scratch buffers held.

  A loop over the eight blocks is met with the blocks already written at their values; the while by induction on the
  sweeps it may still make, its counter starting at 0 and its test stopping it at 64.
-/
module

public import proofs.«01_k».proof.Proof.Gen.KernelIdeal.Skeleton
public import proofs.«01_k».proof.Proof.Gen.KernelIdeal.Launch
public import proofs.«01_k».proof.Proof.Gen.KernelIdeal.Points
public import proofs.«01_k».proof.Proof.PI.Model
public import Idealize.ShloMosaic.Lib.Pipeline.Frame
public import Idealize.ShloMosaic.Lib.Tactic

@[expose] public section

set_option maxRecDepth 65536

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] [Named F]

local notation "𝕄" => MT nD τ sig Unit (Elt F) ℕ (UR sig nD τ) ℕ

/-- The while is met by counting down the sweeps it may still make. -/
abbrev 𝒱₀ : Variants := Variants.nat

/-- Buffer `b` of core `c`, held whole at contents `f`. -/
abbrev at_ (c : Dev nD) (b : Ref sig .tc) (f : Buf (Elt F) ((c : Thread nD τ).loc b)) : sProp 𝕄 :=
  iprop(((c : Thread nD τ).loc b) ↦{fullShare} f)

/-- Buffer `b` of core `c`, held whole at some contents. -/
abbrev some_ (c : Dev nD) (b : Ref sig .tc) : sProp 𝕄 :=
  iprop(∃ f : Buf (Elt F) ((c : Thread nD τ).loc b), at_ c b f)

/-- The whole of a column of 4096 numbers. -/
abbrev rW : Rect S4096x1 := Rect.unit (s := S4096x1) ![0, 0] S4096x1.size inb_S4096x1_S4096x1_0_0

/-- The adjacency, the degrees, the result: held with the blocks before `n` at `P`. -/
def up5 (c : Dev nD) (n : ℕ) (P : Fin 8 → Vec F S512x4096 .i8) : sProp 𝕄 :=
  iprop(∃ f : Vec F S4096x4096 .i8, at_ c cc0_scratch0 f ∗ ⌜∀ b : Fin 8, b.val < n → part (d := 4096) b f = P b⌝)
def up6 (c : Dev nD) (n : ℕ) (P : Fin 8 → Vec F S512x1 .f32) : sProp 𝕄 :=
  iprop(∃ f : Vec F S4096x1 .f32, at_ c cc0_scratch1 f ∗ ⌜∀ b : Fin 8, b.val < n → part (d := 1) b f = P b⌝)
def up4 (c : Dev nD) (n : ℕ) (P : Fin 8 → Vec F S512x1 .f32) : sProp 𝕄 :=
  iprop(∃ f : Vec F S4096x1 .f32, at_ c cc0_stg4_0 f ∗ ⌜∀ b : Fin 8, b.val < n → part (d := 1) b f = P b⌝)

/-- One more block written: the blocks before `k + 1` are at `P`. -/
theorem more_blocks {sig' : RefSig} {κ : Kind} {sp : Space} {d : ℕ} {e : EltTy} {Val : EltTy → Type} (v : View sig' κ sp (Tall d) e)
    (f : v.ty.Contents Val) {off : Fin 2 → ℕ} (k : Fin 8) (inb : ∀ a, off a + (Blk d).size a ≤ (Tall d).size a) (hoff : off = ![512 * k.val, 0])
    (w : (Rect.unit (s := Tall d) off (Blk d).size inb).shape.Idx → Val e) (P : Fin 8 → (Blk d).Idx → Val e) (hw : w = P k)
    (h : ∀ b : Fin 8, b.val < k.val → part b (v.read Val f) = P b) :
    ∀ b : Fin 8, b.val < k.val + 1 →
      part b (v.read Val ((v.slice (Rect.unit (s := Tall d) off (Blk d).size inb)).write Val f w Finset.univ)) = P b := by
  intro b hb
  rw [part_write v f k b inb hoff w]
  by_cases hk : b = k
  · rw [if_pos hk, hk, hw]
  · rw [if_neg hk]
    exact h b (by
      have : b.val ≠ k.val := fun e => hk (Fin.ext e)
      omega)

/-- Reading the adjacency's buffer whole changes nothing. -/
theorem read_whole0 (g : Vec F S4096x4096 .i8) : (Memref.whole cc0_scratch0).view.read (Elt F) g = g := rfl

/-- The same of the adjacency's buffer. -/
theorem more5 (f : Vec F S4096x4096 .i8) (t : Fin k0_t1_loop.trips) (w : Vec F S512x4096 .i8) (P : Fin 8 → Vec F S512x4096 .i8)
    (hw : w = P ⟨t.val, t.isLt⟩) (h : ∀ b : Fin 8, b.val < t.val → part (d := 4096) b f = P b) :
    ∀ b : Fin 8, b.val < t.val + 1 → part (d := 4096) b (View.write (Elt F)
      ((Memref.whole cc0_scratch0).access (Rect.unit (s := S4096x4096) (k0_off3 t) S512x4096.size (k0_off3_inb t))) f w Finset.univ) = P b :=
  fun b hb => (congrArg (part (d := 4096) b) (read_whole0 _).symm).trans
    (more_blocks (d := 4096) (Val := Elt F) (Memref.whole cc0_scratch0).view f (⟨t.val, t.isLt⟩ : Fin 8) (k0_off3_inb t) (k0_off3_eq t) w P hw
      (fun b hb => (congrArg (part (d := 4096) b) (read_whole0 _)).trans (h b hb)) b hb)

/-- A store over the whole of a column leaves what is stored. -/
theorem store_whole2 (f w : Vec F S4096x1 .f32) :
    View.write (Elt F) ((Memref.whole cc0_scratch2).access rW) f w Finset.univ = w :=
  Memref.write_access_unit_zero_univ (Elt F) cc0_scratch2 (funext fun a => by fin_cases a <;> rfl) inb_S4096x1_S4096x1_0_0 f w
theorem store_whole3 (f w : Vec F S4096x1 .f32) :
    View.write (Elt F) ((Memref.whole cc0_scratch3).access rW) f w Finset.univ = w :=
  Memref.write_access_unit_zero_univ (Elt F) cc0_scratch3 (funext fun a => by fin_cases a <;> rfl) inb_S4096x1_S4096x1_0_0 f w

variable (c : Dev nD) (bd : Option 𝒱₀.V) (E : Set ℕ)

/-- Loop 1 (the adjacency and the degrees), one trip. -/
theorem run_t1 (f0 : Vec F S4096x64 .f32) (f2 : Vec F S4096x1 .f32)
    (v0 : Vec F S64x4096 .f32) (v5 : Vec F S1x4096 .f32) (t : Fin k0_t1_loop.trips) (acc : Unit) :
    iprop(at_ c cc0_stg0_0 f0 ∗ at_ c cc0_stg2_0 f2 ∗ up5 c t.val (fun k => k0_pay17 v0 v5 (part (d := 64) k f0) (part (d := 1) k f2))
      ∗ up6 c t.val (fun k => k0_pay18 v0 v5 (part (d := 64) k f0) (part (d := 1) k f2)))
      ⊢ wp frame (wpE (defs₀ (F := F)) 𝒱₀ (c : Thread nD τ) bd) E
        (k0_t1_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _) v0 v5 t acc)
        fun _ => iprop(at_ c cc0_stg0_0 f0 ∗ at_ c cc0_stg2_0 f2 ∗ up5 c (t.val + 1) (fun k => k0_pay17 v0 v5 (part (d := 64) k f0) (part (d := 1) k f2))
      ∗ up6 c (t.val + 1) (fun k => k0_pay18 v0 v5 (part (d := 64) k f0) (part (d := 1) k f2))) := by
  unfold k0_t1_body up5 up6
  simp only [Prog.lift, Prog.bind_op, Prog.bind_ret, Prog.pure_eq_ret]
  iintro ⟨H0, H2, ⟨%f5, H5, %h5⟩, ⟨%f6, H6, %h6⟩⟩
  iapply (wp_load 𝒱₀ (c : Thread nD τ) bd E (m := Memref.whole cc0_stg0_0) (Finset.subset_univ _)) $$ H0; iintro H0
  iapply (wp_load 𝒱₀ (c : Thread nD τ) bd E (m := Memref.whole cc0_stg2_0) (Finset.subset_univ _)) $$ H2; iintro H2
  iapply (wp_load 𝒱₀ (c : Thread nD τ) bd E (m := Memref.whole cc0_scratch0) (Finset.subset_univ _)) $$ H5; iintro H5
  iapply (wp_store 𝒱₀ (c : Thread nD τ) bd E (m := Memref.whole cc0_scratch0) (r := Rect.unit (s := S4096x4096) (k0_off3 t) S512x4096.size (k0_off3_inb t)) (Mk := Finset.univ) (Finset.subset_univ _)) $$ H5; iintro H5
  iapply (wp_load 𝒱₀ (c : Thread nD τ) bd E (m := Memref.whole cc0_scratch1) (Finset.subset_univ _)) $$ H6; iintro H6
  iapply (wp_store 𝒱₀ (c : Thread nD τ) bd E (m := Memref.whole cc0_scratch1) (r := Rect.unit (s := S4096x1) (k0_off2 t) S512x1.size (k0_off2_inb t)) (Mk := Finset.univ) (Finset.subset_univ _)) $$ H6; iintro H6
  rw [wp_ret]; imodintro
  have e0 := read_part (d := 64) (Val := Elt F) (Memref.whole cc0_stg0_0).view f0 (⟨t.val, t.isLt⟩ : Fin 8) (k0_off1_inb t) (k0_off1_eq t)
  have e2 := read_part (d := 1) (Val := Elt F) (Memref.whole cc0_stg2_0).view f2 (⟨t.val, t.isLt⟩ : Fin 8) (k0_off2_inb t) (k0_off2_eq t)
  isplitl [H0]; · iexact H0
  isplitl [H2]; · iexact H2
  isplitl [H5]
  · iexists _
    isplitl [H5]; · iexact H5
    ipureintro
    refine more5 f5 t (k0_pay17 v0 v5 _ _) (fun k => k0_pay17 v0 v5 (part (d := 64) k f0) (part (d := 1) k f2)) ?_ h5
    rw [e0, e2]
    rfl
  iexists _
  isplitl [H6]; · iexact H6
  ipureintro
  exact more_blocks (d := 1) (Memref.whole cc0_scratch1).view f6 (⟨t.val, t.isLt⟩ : Fin 8) (k0_off2_inb t) (k0_off2_eq t) _ _
    (by rw [e0, e2]; rfl) h6

/-- Loop 3 (the ranks of the representatives), one trip. -/
theorem run_t3 (f7 : Vec F S4096x1 .f32) (v23_1 : FVec F S1x4096 .f32)
    (t : Fin k0_t3_loop.trips) (acc : FVec F S1x4096 .f32) :
    iprop(at_ c cc0_scratch2 f7 ∗ ⌜acc = ranks v23_1 f7 t.val⌝)
      ⊢ wp frame (wpE (defs₀ (F := F)) 𝒱₀ (c : Thread nD τ) bd) E
        (k0_t3_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _) v23_1 0#32 t acc)
        fun a => iprop(at_ c cc0_scratch2 f7 ∗ ⌜a = ranks v23_1 f7 (t.val + 1)⌝) := by
  unfold k0_t3_body
  simp only [Prog.lift, Prog.bind_op, Prog.bind_ret, Prog.pure_eq_ret]
  iintro ⟨H7, %ha⟩
  iapply (wp_load 𝒱₀ (c : Thread nD τ) bd E (m := Memref.whole cc0_scratch2) (Finset.subset_univ _)) $$ H7; iintro H7
  rw [wp_ret]; imodintro
  have e7 := read_part (d := 1) (Val := Elt F) (Memref.whole cc0_scratch2).view f7 (⟨t.val, t.isLt⟩ : Fin 8) (k0_off6_inb t) (k0_off6_eq t)
  isplitl [H7]; · iexact H7
  ipureintro
  have ht : t.val < 8 := t.isLt
  rw [e7, ha]
  show _ = dite (t.val < 8) _ _
  rw [dif_pos ht]
  rfl

/-- Loop 4 (the labels), one trip. -/
theorem run_t4 (f5 : Vec F S4096x4096 .i8) (f6 : Vec F S4096x1 .f32)
    (f8 : Vec F S4096x1 .f32) (v11 : IVec S1x4096 1) (v34 : FVec F S1x4096 .f32)
    (t : Fin k0_t4_loop.trips) (acc : Unit) :
    iprop(at_ c cc0_scratch0 f5 ∗ at_ c cc0_scratch1 f6 ∗ at_ c cc0_scratch3 f8 ∗ up4 c t.val (fun k => k0_pay4 v11 v34 (part (d := 4096) k f5) (part (d := 1) k f8) (part (d := 1) k f6)))
      ⊢ wp frame (wpE (defs₀ (F := F)) 𝒱₀ (c : Thread nD τ) bd) E
        (k0_t4_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _) v11 v34 t acc)
        fun _ => iprop(at_ c cc0_scratch0 f5 ∗ at_ c cc0_scratch1 f6 ∗ at_ c cc0_scratch3 f8 ∗ up4 c (t.val + 1) (fun k => k0_pay4 v11 v34 (part (d := 4096) k f5) (part (d := 1) k f8) (part (d := 1) k f6))) := by
  unfold k0_t4_body up4
  simp only [Prog.lift, Prog.bind_op, Prog.bind_ret, Prog.pure_eq_ret]
  iintro ⟨H5, H6, H8, ⟨%f4, H4, %h4⟩⟩
  iapply (wp_load 𝒱₀ (c : Thread nD τ) bd E (m := Memref.whole cc0_scratch0) (Finset.subset_univ _)) $$ H5; iintro H5
  iapply (wp_load 𝒱₀ (c : Thread nD τ) bd E (m := Memref.whole cc0_scratch3) (Finset.subset_univ _)) $$ H8; iintro H8
  iapply (wp_load 𝒱₀ (c : Thread nD τ) bd E (m := Memref.whole cc0_scratch1) (Finset.subset_univ _)) $$ H6; iintro H6
  iapply (wp_load 𝒱₀ (c : Thread nD τ) bd E (m := Memref.whole cc0_stg4_0) (Finset.subset_univ _)) $$ H4; iintro H4
  iapply (wp_store 𝒱₀ (c : Thread nD τ) bd E (m := Memref.whole cc0_stg4_0) (r := Rect.unit (s := S4096x1) (k0_off8 t) S512x1.size (k0_off8_inb t)) (Mk := Finset.univ) (Finset.subset_univ _)) $$ H4; iintro H4
  rw [wp_ret]; imodintro
  have e5 := read_part (d := 4096) (Val := Elt F) (Memref.whole cc0_scratch0).view f5 (⟨t.val, t.isLt⟩ : Fin 8) (k0_off7_inb t) (k0_off7_eq t)
  have e8 := read_part (d := 1) (Val := Elt F) (Memref.whole cc0_scratch3).view f8 (⟨t.val, t.isLt⟩ : Fin 8) (k0_off8_inb t) (k0_off8_eq t)
  have e6 := read_part (d := 1) (Val := Elt F) (Memref.whole cc0_scratch1).view f6 (⟨t.val, t.isLt⟩ : Fin 8) (k0_off8_inb t) (k0_off8_eq t)
  isplitl [H5]; · iexact H5
  isplitl [H6]; · iexact H6
  isplitl [H8]; · iexact H8
  iexists _
  isplitl [H4]; · iexact H4
  ipureintro
  exact more_blocks (d := 1) (Memref.whole cc0_stg4_0).view f4 (⟨t.val, t.isLt⟩ : Fin 8) (k0_off8_inb t) (k0_off8_eq t) _ _
    (by rw [e5, e6, e8]; rfl) h4

/-! ## The while -/

/-- What a sweep holds: the adjacency at its contents and the working vector at something. -/
def sweepHeld (f5 : Vec F S4096x4096 .i8) : sProp 𝕄 :=
  iprop(at_ c cc0_scratch0 f5 ∗ some_ c cc0_scratch2)

/-- What the loop inside a sweep holds before its block `n`: the working vector with the blocks before `n` replaced, and
    the two carried rows. -/
def midSweep (f5 : Vec F S4096x4096 .i8) (w : Vec F S4096x1 .f32) (a : FVec F S1x4096 .f32) (n : ℕ)
    (acc : FVec F S1x4096 .f32 × FVec F S1x4096 .f32) : sProp 𝕄 :=
  iprop(∃ f : Vec F S4096x1 .f32, at_ c cc0_scratch0 f5 ∗ at_ c cc0_scratch2 f
    ∗ ⌜acc = carry f5 w a n ∧ ∀ b : Fin 8, part (d := 1) b f = if b.val < n then colBlk f5 w a b else part (d := 1) b w⌝)

/-- The while's label hands back what it was given, and the state after the sweeps. -/
def spec (f5 : Vec F S4096x4096 .i8) (r : FVec F S1x4096 .f32 × FVec F S4096x1 .f32 × BitVec 1) :
    sWPT 𝕄 (BitVec 32 × FVec F S1x4096 .f32 × FVec F S4096x1 .f32 × BitVec 1) := do
  sWPT.consume (sweepHeld c f5)
  let i ← sWPT.arbitrary
  sWPT.produce (sweepHeld c f5)
  pure (i, r)

theorem spec_apply (f5 : Vec F S4096x4096 .i8) (r : FVec F S1x4096 .f32 × FVec F S4096x1 .f32 × BitVec 1)
    (K : BitVec 32 × FVec F S1x4096 .f32 × FVec F S4096x1 .f32 × BitVec 1 → sProp 𝕄) :
    spec c f5 r K = iprop(sweepHeld c f5 ∗ ∀ i, (sweepHeld c f5 -∗ K (i, r))) := rfl

/-- The counter's test at a count. -/
theorem slt_64 (j : ℕ) (hj : j ≤ 64) : Scalar.cmpi .slt (BitVec.ofNat 32 j) 64#32 = if j < 64 then 1#1 else 0#1 := by
  have h : ∀ j : Fin 65, Scalar.cmpi .slt (BitVec.ofNat 32 j.val) 64#32 = if j.val < 64 then 1#1 else 0#1 := by decide
  exact h ⟨j, by omega⟩

theorem addi_one (j : ℕ) (hj : j < 64) : Scalar.addi (BitVec.ofNat 32 j) 1#32 = BitVec.ofNat 32 (j + 1) := by
  have h : ∀ j : Fin 64, Scalar.addi (BitVec.ofNat 32 j.val) 1#32 = BitVec.ofNat 32 (j.val + 1) := by decide
  exact h ⟨j, hj⟩

theorem andi_zero (x : BitVec 1) : ¬ (Scalar.andi x 0#1 = 1#1) := by revert x; decide
theorem andi_one (x : BitVec 1) : Scalar.andi x 1#1 = x := by revert x; decide

/-- The working vector after one more block of a sweep. -/
theorem mid_more (f5 : Vec F S4096x4096 .i8) (w : Vec F S4096x1 .f32) (a : FVec F S1x4096 .f32) (t : Fin k0_t2_loop.trips)
    (f : Vec F S4096x1 .f32) (y : Vec F S512x1 .f32) (hy : y = colBlk f5 w a ⟨t.val, t.isLt⟩)
    (h : ∀ b : Fin 8, part (d := 1) b f = if b.val < t.val then colBlk f5 w a b else part (d := 1) b w) :
    ∀ b : Fin 8, part (d := 1) b ((Memref.whole cc0_scratch2).view.read (Elt F)
        (((Memref.whole cc0_scratch2).view.slice (Rect.unit (s := S4096x1) (k0_off5 t) S512x1.size (k0_off5_inb t))).write (Elt F) f y Finset.univ))
      = if b.val < t.val + 1 then colBlk f5 w a b else part (d := 1) b w := by
  intro b
  refine (part_write (d := 1) (Val := Elt F) (Memref.whole cc0_scratch2).view f (⟨t.val, t.isLt⟩ : Fin 8) b (k0_off5_inb t) (k0_off5_eq t) y).trans ?_
  by_cases hk : b = (⟨t.val, t.isLt⟩ : Fin 8)
  · rw [if_pos hk, hy, hk, if_pos (Nat.lt_succ_self _)]
  · rw [if_neg hk]
    have hne : b.val ≠ t.val := fun e => hk (Fin.ext e)
    refine (h b).trans ?_
    by_cases hlt : b.val < t.val
    · rw [if_pos hlt, if_pos (by omega)]
    · rw [if_neg hlt, if_neg (by omega)]

/-- The label's body meets its specification at every counter up to 64, by induction on the sweeps left. -/
theorem spec_le (f5 : Vec F S4096x4096 .i8) (v14 : IVec S4096x1 1) (v11 : IVec S1x4096 1) :
    ∀ k j, j + k = 64 → ∀ (row : FVec F S1x4096 .f32) (col : FVec F S4096x1 .f32) (go : BitVec 1) K,
      spec c f5 (sweeps f5 v14 v11 k row col go) K
      ⊢ wp frame (wpE (defs₀ (F := F)) 𝒱₀ (c : Thread nD τ) (some k)) E
          (defs₀ (F := F) .tc 1 ⟨v14, Memref.whole cc0_scratch2, Memref.isWhole_whole _, v11, Memref.whole cc0_scratch0,
            Memref.isWhole_whole _, BitVec.ofNat 32 j, row, col, go⟩) K := by
  intro k
  induction k with
  | zero =>
    intro j hj row col go K
    have hj64 : j = 64 := hj
    rw [spec_apply]
    show _ ⊢ wp frame (wpE (defs₀ (F := F)) 𝒱₀ (c : Thread nD τ) (some 0)) E
      (cc0_while1 v14 (Memref.whole cc0_scratch2) (Memref.isWhole_whole _) v11 (Memref.whole cc0_scratch0)
            (Memref.isWhole_whole _) (BitVec.ofNat 32 j) row col go) K
    simp only [cc0_while1_eq_skeleton]; unfold cc0_while1_skel
    have h64 : Scalar.cmpi .slt (BitVec.ofNat 32 j) 64#32 = 0#1 := by rw [slt_64 j (by omega)]; exact if_neg (by omega)
    simp only [h64, andi_zero, ↓reduceIte, Prog.pure_eq_ret]
    rw [show sweeps f5 v14 v11 0 row col go = (row, col, go) from rfl]
    iintro ⟨H, Hk⟩
    rw [wp_ret]; imodintro
    iapply Hk
    iexact H
  | succ k ih =>
    intro j hj row col go K
    rw [spec_apply]
    show _ ⊢ wp frame (wpE (defs₀ (F := F)) 𝒱₀ (c : Thread nD τ) (some (k + 1))) E
      (cc0_while1 v14 (Memref.whole cc0_scratch2) (Memref.isWhole_whole _) v11 (Memref.whole cc0_scratch0)
            (Memref.isWhole_whole _) (BitVec.ofNat 32 j) row col go) K
    simp only [cc0_while1_eq_skeleton]; unfold cc0_while1_skel
    have h64 : Scalar.cmpi .slt (BitVec.ofNat 32 j) 64#32 = 1#1 := by rw [slt_64 j (by omega)]; exact if_pos (by omega)
    simp only [h64, andi_one]
    by_cases hgo : go = 1#1
    · have hs : sweeps f5 v14 v11 (k + 1) row col go
          = sweeps f5 v14 v11 k (sweepRow f5 v14 v11 row col) (sweepCol f5 v14 v11 row col) (sweepGo f5 v14 v11 row col) := if_pos hgo
      rw [hs]
      simp only [hgo, ↓reduceIte, Prog.lift, Prog.bind_op, Prog.bind_ret, Prog.pure_eq_ret]
      unfold sweepHeld
      iintro ⟨⟨H5, ⟨%f7, H7⟩⟩, Hk⟩
      iapply (wp_load 𝒱₀ (c : Thread nD τ) (some (k + 1)) E (m := Memref.whole cc0_scratch2) (Finset.subset_univ _)) $$ H7; iintro H7
      iapply (wp_store 𝒱₀ (c : Thread nD τ) (some (k + 1)) E (m := Memref.whole cc0_scratch2) (r := rW) (Mk := Finset.univ) (Finset.subset_univ _)) $$ H7; iintro H7
      rw [store_whole2]
      ihave Hin : midSweep c f5 (k0_pay5 v14 col) (k0_pay6 v11 row) 0 (k0_pay6 v11 row, k0_pay7) $$ [H5 H7]
      · unfold midSweep
        iexists _
        isplitl [H5]; · iexact H5
        isplitl [H7]; · iexact H7
        ipureintro
        exact ⟨rfl, fun b => (if_neg (Nat.not_lt_zero _)).symm⟩
      iapply (Scf.wp_for_bind frame (wpE (defs₀ (F := F)) 𝒱₀ (c : Thread nD τ) (some (k + 1))) E _ _ _ _ _ _
        (midSweep c f5 (k0_pay5 v14 col) (k0_pay6 v11 row)) (by
          rintro t ⟨a15, a16⟩
          unfold midSweep
          iintro ⟨%f, H5, H7, %h⟩
          iapply (wp_load 𝒱₀ (c : Thread nD τ) (some (k + 1)) E (m := Memref.whole cc0_scratch0) (Finset.subset_univ _)) $$ H5; iintro H5
          iapply (wp_load 𝒱₀ (c : Thread nD τ) (some (k + 1)) E (m := Memref.whole cc0_scratch2) (Finset.subset_univ _)) $$ H7; iintro H7
          iapply (wp_load 𝒱₀ (c : Thread nD τ) (some (k + 1)) E (m := Memref.whole cc0_scratch2) (Finset.subset_univ _)) $$ H7; iintro H7
          iapply (wp_store 𝒱₀ (c : Thread nD τ) (some (k + 1)) E (m := Memref.whole cc0_scratch2) (r := Rect.unit (s := S4096x1) (k0_off5 t) S512x1.size (k0_off5_inb t)) (Mk := Finset.univ) (Finset.subset_univ _)) $$ H7; iintro H7
          rw [wp_ret]; imodintro
          have e5 := read_part (d := 4096) (Val := Elt F) (Memref.whole cc0_scratch0).view f5 (⟨t.val, t.isLt⟩ : Fin 8) (k0_off4_inb t) (k0_off4_eq t)
          have e7 := read_part (d := 1) (Val := Elt F) (Memref.whole cc0_scratch2).view f (⟨t.val, t.isLt⟩ : Fin 8) (k0_off5_inb t) (k0_off5_eq t)
          have e7' : part (d := 1) (⟨t.val, t.isLt⟩ : Fin 8) f = part (d := 1) (⟨t.val, t.isLt⟩ : Fin 8) (k0_pay5 v14 col) :=
            (h.2 _).trans (if_neg (Nat.lt_irrefl _))
          have ht : t.val < 8 := t.isLt
          iexists _
          isplitl [H5]; · iexact H5
          isplitl [H7]; · iexact H7
          ipureintro
          have e7'' := e7.trans e7'
          refine ⟨?_, mid_more f5 (k0_pay5 v14 col) (k0_pay6 v11 row) t f _ ?_ h.2⟩
          · have hs1 : carry f5 (k0_pay5 v14 col) (k0_pay6 v11 row) (t.val + 1) = _ := dif_pos ht
            rw [hs1, ← h.1, e5, e7'']
            rfl
          · rw [e5, e7'']
            unfold colBlk
            rw [show carry f5 (k0_pay5 v14 col) (k0_pay6 v11 row) (⟨t.val, t.isLt⟩ : Fin 8).val = (a15, a16) from h.1.symm]
            rfl)) $$ Hin
      iintro %acc Hm
      unfold midSweep
      icases Hm with ⟨%f7', H5, H7, %hm⟩
      simp only [Prog.lift, Prog.bind_op, Prog.bind_ret, Prog.pure_eq_ret]
      iapply (wp_load 𝒱₀ (c : Thread nD τ) (some (k + 1)) E (m := Memref.whole cc0_scratch2) (Finset.subset_univ _)) $$ H7; iintro H7
      rw [addi_one j (by omega)]
      have hacc : acc = carry f5 (k0_pay5 v14 col) (k0_pay6 v11 row) 8 := hm.1
      have hcol : f7' = glue (d := 1) (colBlk f5 (k0_pay5 v14 col) (k0_pay6 v11 row)) :=
        eq_glue (d := 1) fun b => (hm.2 b).trans (if_pos b.isLt)
      have hld : (Memref.whole cc0_scratch2).view.readAt (Elt F) (Rect.unit (s := S4096x1) ![0, 0] S4096x1.size inb_S4096x1_S4096x1_0_0).toLoadRect f7'
          = glue (d := 1) (colBlk f5 (k0_pay5 v14 col) (k0_pay6 v11 row)) := (View.readAt_full _ _ _).trans hcol
      have hrow' : k0_pay13 row acc.2 = sweepRow f5 v14 v11 row col := by rw [hacc]; rfl
      have hcol' : k0_pay14 v14 col ((Memref.whole cc0_scratch2).view.readAt (Elt F) (Rect.unit (s := S4096x1) ![0, 0] S4096x1.size inb_S4096x1_S4096x1_0_0).toLoadRect f7')
          = sweepCol f5 v14 v11 row col := by rw [hld]; rfl
      have hgo' : Scalar.cmpf .ogt (k0_pay15 v11 row acc.2) (Scalar.ofBits (F := F) .f32 0x00000000#32) = sweepGo f5 v14 v11 row col := by rw [hacc]; rfl
      rw [hrow', hcol', hgo']
      iapply (wp_call_spec 𝒱₀ (c : Thread nD τ) (some (k + 1)) E (spec c f5 _) k
        (fun u hu => by cases hu; exact Nat.lt_succ_self k) (ih (j + 1) (by omega) _ _ _))
      rw [spec_apply]; unfold sweepHeld
      isplitl [H5 H7]
      · isplitl [H5]; · iexact H5
        iexists _; iexact H7
      iintro %r H
      rw [wp_ret]; imodintro
      iapply Hk
      iexact H
    · have hs : sweeps f5 v14 v11 (k + 1) row col go = (row, col, go) := if_neg hgo
      rw [hs]
      simp only [hgo, ↓reduceIte, Prog.pure_eq_ret]
      iintro ⟨H, Hk⟩
      rw [wp_ret]; imodintro
      iapply Hk
      iexact H

/-! ## The body -/

/-- The whole body, from the four inputs at their contents and the other buffers at anything. -/
theorem run_body (f0 : Vec F S4096x64 .f32) (f1 : Vec F S64x4096 .f32) (f2 : Vec F S4096x1 .f32) (f3 : Vec F S1x4096 .f32) (K : PUnit → sProp 𝕄) :
    iprop((at_ c cc0_stg0_0 f0 ∗ at_ c cc0_stg1_0 f1 ∗ at_ c cc0_stg2_0 f2 ∗ at_ c cc0_stg3_0 f3 ∗ some_ c cc0_stg4_0
        ∗ some_ c cc0_scratch0 ∗ some_ c cc0_scratch1 ∗ some_ c cc0_scratch2 ∗ some_ c cc0_scratch3)
      ∗ ((at_ c cc0_stg0_0 f0 ∗ at_ c cc0_stg1_0 f1 ∗ at_ c cc0_stg2_0 f2 ∗ at_ c cc0_stg3_0 f3 ∗ at_ c cc0_stg4_0 (bodyOut f0 f1 f2 f3)
        ∗ some_ c cc0_scratch0 ∗ some_ c cc0_scratch1 ∗ some_ c cc0_scratch2 ∗ some_ c cc0_scratch3) -∗ K ⟨⟩))
      ⊢ wp frame (wpE (defs₀ (F := F)) 𝒱₀ (c : Thread nD τ) none) E
        (cc0__dbscan_body (Memref.whole cc0_stg0_0) (Memref.isWhole_whole _) (Memref.whole cc0_stg1_0) (Memref.isWhole_whole _)
          (Memref.whole cc0_stg2_0) (Memref.isWhole_whole _) (Memref.whole cc0_stg3_0) (Memref.isWhole_whole _)
          (Memref.whole cc0_stg4_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)) K := by
  simp only [cc0__dbscan_body_eq_skeleton]; unfold cc0__dbscan_body_skel
  simp only [k0_part1_eq_skeleton]; unfold k0_part1_skel
  simp only [Prog.lift, Prog.bind_op, Prog.bind_ret, Prog.pure_eq_ret, bind_assoc]
  iintro ⟨⟨H0, H1, H2, H3, ⟨%g4, H4⟩, ⟨%g5, H5⟩, ⟨%g6, H6⟩, ⟨%f7, H7⟩, ⟨%f8, H8⟩⟩, Hk⟩
  iapply (wp_load 𝒱₀ (c : Thread nD τ) none E (m := Memref.whole cc0_stg1_0) (Finset.subset_univ _)) $$ H1; iintro H1
  iapply (wp_load 𝒱₀ (c : Thread nD τ) none E (m := Memref.whole cc0_stg3_0) (Finset.subset_univ _)) $$ H3; iintro H3
  have e1 : (Memref.whole cc0_stg1_0).view.readAt (Elt F) (Rect.unit (s := S64x4096) ![0, 0] S64x4096.size inb_S64x4096_S64x4096_0_0).toLoadRect f1 = f1 := View.readAt_full _ _ _
  have e3 : (Memref.whole cc0_stg3_0).view.readAt (Elt F) (Rect.unit (s := S1x4096) ![0, 0] S1x4096.size inb_S1x4096_S1x4096_0_0).toLoadRect f3 = f3 := View.readAt_full _ _ _
  rw [e1, e3]
  ihave Hin : iprop(at_ c cc0_stg0_0 f0 ∗ at_ c cc0_stg2_0 f2 ∗ up5 c 0 (fun k => k0_pay17 f1 f3 (part (d := 64) k f0) (part (d := 1) k f2))
      ∗ up6 c 0 (fun k => k0_pay18 f1 f3 (part (d := 64) k f0) (part (d := 1) k f2))) $$ [H0 H2 H5 H6]
  · isplitl [H0]; · iexact H0
    isplitl [H2]; · iexact H2
    unfold up5 up6
    isplitl [H5]
    · iexists _
      isplitl [H5]; · iexact H5
      ipureintro
      exact fun b hb => absurd hb (Nat.not_lt_zero _)
    iexists _
    isplitl [H6]; · iexact H6
    ipureintro
    exact fun b hb => absurd hb (Nat.not_lt_zero _)
  iapply (Scf.wp_for_bind frame (wpE (defs₀ (F := F)) 𝒱₀ (c : Thread nD τ) none) E _ _ _ _ _ _
    (fun n _ => iprop(at_ c cc0_stg0_0 f0 ∗ at_ c cc0_stg2_0 f2 ∗ up5 c n (fun k => k0_pay17 f1 f3 (part (d := 64) k f0) (part (d := 1) k f2))
      ∗ up6 c n (fun k => k0_pay18 f1 f3 (part (d := 64) k f0) (part (d := 1) k f2))))
    (fun t acc => run_t1 c none E f0 f2 f1 f3 t acc)) $$ Hin
  iintro %acc Hm
  unfold up5 up6
  icases Hm with ⟨H0, H2, ⟨%f5, H5, %h5⟩, ⟨%f6, H6, %h6⟩⟩
  have hJ : f5 = adj f0 f1 f2 f3 := eq_glue (d := 4096) fun b => h5 b b.isLt
  have hD : f6 = deg f0 f1 f2 f3 := eq_glue (d := 1) fun b => h6 b b.isLt
  have hout : bodyOut f0 f1 f2 f3 = outOf f5 f6 := by rw [hJ, hD]; rfl
  rw [hout]
  clear hout hJ hD h5 h6
  simp only [Prog.lift, Prog.bind_op, Prog.bind_ret, Prog.pure_eq_ret]
  iapply (wp_load 𝒱₀ (c : Thread nD τ) none E (m := Memref.whole cc0_scratch1) (Finset.subset_univ _)) $$ H6; iintro H6
  iapply (wp_load 𝒱₀ (c : Thread nD τ) none E (m := Memref.whole cc0_scratch1) (Finset.subset_univ _)) $$ H6; iintro H6
  have e6 : (Memref.whole cc0_scratch1).view.readAt (Elt F) (Rect.unit (s := S4096x1) ![0, 0] S4096x1.size inb_S4096x1_S4096x1_0_0).toLoadRect f6 = f6 := View.readAt_full _ _ _
  rw [e6]
  iapply (wp_call_spec 𝒱₀ (c : Thread nD τ) none E (spec c f5 _) 64
    (fun u hu => nomatch hu) (spec_le c E f5 _ _ 64 0 rfl _ _ _))
  rw [spec_apply]; unfold sweepHeld
  isplitl [H5 H7]
  · isplitl [H5]; · iexact H5
    iexists _; iexact H7
  iintro %i ⟨H5, ⟨%f7, H7⟩⟩
  simp only [Prog.lift, Prog.bind_op, Prog.bind_ret, Prog.pure_eq_ret]
  iapply (wp_load 𝒱₀ (c : Thread nD τ) none E (m := Memref.whole cc0_scratch2) (Finset.subset_univ _)) $$ H7; iintro H7
  iapply (wp_store 𝒱₀ (c : Thread nD τ) none E (m := Memref.whole cc0_scratch2) (r := rW) (Mk := Finset.univ) (Finset.subset_univ _)) $$ H7; iintro H7
  rw [store_whole2]
  ihave Hin : iprop(at_ c cc0_scratch2 (k0_pay24 f6 (settledState f5 f6).2.1) ∗ ⌜k0_pay25 (F := F) = ranks (settledState f5 f6).1 (k0_pay24 f6 (settledState f5 f6).2.1) 0⌝) $$ [H7]
  · isplitl [H7]; · iexact H7
    ipureintro
    rfl
  iapply (Scf.wp_for_bind frame (wpE (defs₀ (F := F)) 𝒱₀ (c : Thread nD τ) none) E _ _ _ _ _ _
    (fun n a => iprop(at_ c cc0_scratch2 (k0_pay24 f6 (settledState f5 f6).2.1) ∗ ⌜a = ranks (settledState f5 f6).1 (k0_pay24 f6 (settledState f5 f6).2.1) n⌝))
    (fun t acc => run_t3 c none E _ _ t acc)) $$ Hin
  iintro %v34 ⟨H7, %h34⟩
  simp only [Prog.lift, Prog.bind_op, Prog.bind_ret, Prog.pure_eq_ret]
  iapply (wp_load 𝒱₀ (c : Thread nD τ) none E (m := Memref.whole cc0_scratch3) (Finset.subset_univ _)) $$ H8; iintro H8
  iapply (wp_store 𝒱₀ (c : Thread nD τ) none E (m := Memref.whole cc0_scratch3) (r := rW) (Mk := Finset.univ) (Finset.subset_univ _)) $$ H8; iintro H8
  rw [store_whole3]
  ihave Hin : iprop(at_ c cc0_scratch0 f5 ∗ at_ c cc0_scratch1 f6 ∗ at_ c cc0_scratch3 (k0_pay3 v34)
      ∗ up4 c 0 (fun k => k0_pay4 (k0_pay19 f6) v34 (part (d := 4096) k f5) (part (d := 1) k (k0_pay3 v34)) (part (d := 1) k f6))) $$ [H5 H6 H8 H4]
  · isplitl [H5]; · iexact H5
    isplitl [H6]; · iexact H6
    isplitl [H8]; · iexact H8
    unfold up4
    iexists _
    isplitl [H4]; · iexact H4
    ipureintro
    exact fun b hb => absurd hb (Nat.not_lt_zero _)
  iapply (Scf.wp_for_bind frame (wpE (defs₀ (F := F)) 𝒱₀ (c : Thread nD τ) none) E _ _ _ _ _ _
    (fun n _ => iprop(at_ c cc0_scratch0 f5 ∗ at_ c cc0_scratch1 f6 ∗ at_ c cc0_scratch3 (k0_pay3 v34)
      ∗ up4 c n (fun k => k0_pay4 (k0_pay19 f6) v34 (part (d := 4096) k f5) (part (d := 1) k (k0_pay3 v34)) (part (d := 1) k f6))))
    (fun t acc => run_t4 c none E f5 f6 _ _ _ t acc)) $$ Hin
  iintro %acc' Hm
  unfold up4
  icases Hm with ⟨H5, H6, H8, ⟨%f4, H4, %h4⟩⟩
  have hO : f4 = outOf f5 f6 := by
    have h : f4 = glue (d := 1) _ := eq_glue (d := 1) fun b => h4 b b.isLt
    rw [h, show v34 = ranks (settledState f5 f6).1 (k0_pay24 f6 (settledState f5 f6).2.1) 8 from h34]
    rfl
  rw [wp_ret]; imodintro
  iapply Hk
  isplitl [H0]; · iexact H0
  isplitl [H1]; · iexact H1
  isplitl [H2]; · iexact H2
  isplitl [H3]; · iexact H3
  isplitl [H4]; · rw [← hO]; iexact H4
  isplitl [H5]; · iexists _; iexact H5
  isplitl [H6]; · iexists _; iexact H6
  isplitl [H7]; · iexists _; iexact H7
  iexists _; iexact H8

end Cert.Proof.PI

end

end
-- ==== Proof.PI.Run.lean ====
/-
  The ideal kernel's run. From any memory with zero counters every run of @main ends, the points array is as it was
  launched, every counter is zero again, and the result's array is what the body computes of the points, their
  transpose and their squared lengths.
-/
module

public import proofs.«01_k».proof.Proof.PI.Body
public import Idealize.ShloMosaic.Lib.Pipeline.Value
public import Idealize.ShloMosaic.PureOps.BitExact

@[expose] public section

noncomputable section

namespace Cert.Proof.PI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The buffers as the region finds them: the launch contents after the host's operations. -/
def V (c : Dev nD) (b : Ref sig .tc) : Buf (Elt F) ((c.tc : Thread nD τ).loc b) :=
  StableHlo.after hostOps0 (fun b => m (c, b)) b

/-- No host operation writes the points. -/
theorem V_main_arg0 (c : Dev nD) : V m c main_arg0 = m ((c.tc : Thread nD τ).loc main_arg0) :=
  StableHlo.after_of_forall_not_mem (b := Proc.devRef .tc main_arg0) _ _ (by
    intro op h
    simp only [hostOps0, List.mem_cons, List.not_mem_nil, or_false] at h
    rcases h with rfl | rfl | rfl | rfl | rfl | rfl <;> (refine Finset.notMem_singleton.mpr ?_; decide))

theorem hmain : Pipeline.HMain (Ix := Unit) (Name := ℕ) (U := UR sig nD τ) (Lvl := ℕ) (cfgs (F := F)) (0 : Fin 1) defs₀ 𝒱₀ m
    (main (F := F)) (V m) :=
  Pipeline.hmain_prefix (cfgs (F := F)) (0 : Fin 1) defs₀ 𝒱₀ m (main (F := F)) hostOps0 hostOps0_sub
    (by repeat' constructor) main_chain

/-- Window `w`'s block, read off its array. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The result's block: what the body computes of the four inputs' blocks. -/
def outBlk (c : Dev nD) (t : Fin (cfg0 (F := F)).N) : Vec F S4096x1 .f32 :=
  bodyOut (iblk m c 0 t) (iblk m c 1 t) (iblk m c 2 t) (iblk m c 3 t)

/-- The proof data: the arrays as the region finds them, each input's buffer left at its block, and the
    result's at `outBlk`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outBlk m c t
  Φ _ := Pipeline.ΦA spec0 c
  q _ := fullShare
  owed _ := 0

theorem owns_whole_eq (c : Dev nD) (b : Ref sig .tc) (X : b.ty.Contents (Elt F)) :
    (owns (c : Thread nD τ) (Memref.whole b) fullShare X : sProp 𝕄)
      = iprop(∃ f : Buf (Elt F) ((c : Thread nD τ).loc b), ⌜f = X⌝ ∗ at_ c b f) := by
  unfold owns; simp only [Memref.view_whole, View.read_whole, View.set_whole]

/-- The pipeline's obligation at the one point: the body runs from the fetched inputs and leaves them as they were. -/
theorem body_obligation (c : Dev nD) :
    BodyObligationLoose (dats (F := F) m 0 c) (defs₀ (F := F)) 𝒱₀ () Set.univ (fun _ => false) := fun t => by
  rw [fin_N0 t, bigSep_W0, bigSep_W0]
  sl_whnfR [defs₀, Defs.onTc]
  simp only [owns_whole_eq]
  rw [show (dats m 0 c).Φ (t0_0).succ = Pipeline.ΦA spec0 c from rfl, show (dats m 0 c).Φ (t0_0).castSucc = Pipeline.ΦA spec0 c from rfl,
    show (dats m 0 c).owesAt () (t0_0).succ = (dats m 0 c).owesAt () (t0_0).castSucc from rfl]
  unfold Pipeline.ΦA
  rw [scopedRest0_eq]
  iintro ⟨⟨⟨S0, S1, S2, S3, S4⟩, Hg⟩, Ho, ⟨%d0, %g0, %h0, H0⟩, ⟨%d1, %g1, %h1, H1⟩, ⟨%d2, %g2, %h2, H2⟩, ⟨%d3, %g3, %h3, H3⟩, ⟨%d4, %g4, %h4, H4⟩⟩
  have e0 : g0 = iblk m c 0 t0_0 := h0.trans (((dats m 0 c).before_fetched 0 t0_0 (fetch0_0 t0_0) d0).trans rfl)
  have e1 : g1 = iblk m c 1 t0_0 := h1.trans (((dats m 0 c).before_fetched 1 t0_0 (fetch0_1 t0_0) d1).trans rfl)
  have e2 : g2 = iblk m c 2 t0_0 := h2.trans (((dats m 0 c).before_fetched 2 t0_0 (fetch0_2 t0_0) d2).trans rfl)
  have e3 : g3 = iblk m c 3 t0_0 := h3.trans (((dats m 0 c).before_fetched 3 t0_0 (fetch0_3 t0_0) d3).trans rfl)
  iapply (run_body c Set.univ g0 g1 g2 g3)
  isplitl [H0 H1 H2 H3 H4 S0 S1 S2 S3]
  · isplitl [H0]; · iexact H0
    isplitl [H1]; · iexact H1
    isplitl [H2]; · iexact H2
    isplitl [H3]; · iexact H3
    isplitl [H4]; · iexists _; iexact H4
    isplitl [S0]; · iexact S0
    isplitl [S1]; · iexact S1
    isplitl [S2]; · iexact S2
    iexact S3
  iintro ⟨H0, H1, H2, H3, H4, S0, S1, S2, S3⟩
  isplitl [S0 S1 S2 S3 S4 Hg]
  · isplitl [S0 S1 S2 S3 S4]
    · isplitl [S0]; · iexact S0
      isplitl [S1]; · iexact S1
      isplitl [S2]; · iexact S2
      isplitl [S3]; · iexact S3
      iexact S4
    · iexact Hg
  isplitl [Ho]; · iexact Ho
  isplitl [H0]
  · iexists g0; isplitr; swap; · iexact H0
    ipureintro; exact e0
  isplitl [H1]
  · iexists g1; isplitr; swap; · iexact H1
    ipureintro; exact e1
  isplitl [H2]
  · iexists g2; isplitr; swap; · iexact H2
    ipureintro; exact e2
  isplitl [H3]
  · iexists g3; isplitr; swap; · iexact H3
    ipureintro; exact e3
  iexists bodyOut g0 g1 g2 g3; isplitr; swap; · iexact H4
  ipureintro; rw [e0, e1, e2, e3]; rfl

set_option backward.isDefEq.respectTransparency.types false in
/-- The run of @main: it ends, the inputs' arrays as the region found them, every counter at zero. -/
theorem run_main : θ_run defs (onTc (τ := τ) (main (F := F))) (s₀ m ρ)
    (fun r => Pipeline.FramePost (cfgs (F := F)) (dats m) 0 (V m) r ∧ r.2.sem = fun _ => 0) :=
  Pipeline.θ_run_frame (Q' := _) (cfgs (F := F)) (dats m) (0 : Fin 1) launch0 defs₀ 𝒱₀ m ρ main
    (hbody := fun c => body_obligation m c) (hshare := fun c => (dats m 0 c).share_full fun _ => rfl)
    (howed := fun _ _ => rfl) (V := V m) (hmain := hmain m) (hA := fun _ _ => rfl) (hΦ := fun _ _ => rfl)

/-! Each window is its whole array, so an element of the block sits where it sits in the array. -/

theorem emb0 (F : FTy → Type) [FloatOps F] [Named F] (y : S4096x64.Idx) : (((cfg0 (F := F)).win 0).blk t0_0).view.emb y = y := by
  funext a
  exact Fin.ext (Pipeline.Window.rect_emb_val_of_index_zero win0_0 t0_0 a (by revert a; exact (by decide +kernel : ∀ a : Fin 2, win0_0.index t0_0 a = 0)) y)
theorem emb1 (F : FTy → Type) [FloatOps F] [Named F] (y : S64x4096.Idx) : (((cfg0 (F := F)).win 1).blk t0_0).view.emb y = y := by
  funext a
  exact Fin.ext (Pipeline.Window.rect_emb_val_of_index_zero win0_1 t0_0 a (by revert a; exact (by decide +kernel : ∀ a : Fin 2, win0_1.index t0_0 a = 0)) y)
theorem emb2 (F : FTy → Type) [FloatOps F] [Named F] (y : S4096x1.Idx) : (((cfg0 (F := F)).win 2).blk t0_0).view.emb y = y := by
  funext a
  exact Fin.ext (Pipeline.Window.rect_emb_val_of_index_zero win0_2 t0_0 a (by revert a; exact (by decide +kernel : ∀ a : Fin 2, win0_2.index t0_0 a = 0)) y)
theorem emb3 (F : FTy → Type) [FloatOps F] [Named F] (y : S1x4096.Idx) : (((cfg0 (F := F)).win 3).blk t0_0).view.emb y = y := by
  funext a
  exact Fin.ext (Pipeline.Window.rect_emb_val_of_index_zero win0_3 t0_0 a (by revert a; exact (by decide +kernel : ∀ a : Fin 2, win0_3.index t0_0 a = 0)) y)
theorem emb4 (F : FTy → Type) [FloatOps F] [Named F] (y : S4096x1.Idx) : (((cfg0 (F := F)).win 4).blk t0_0).view.emb y = y := by
  funext a
  exact Fin.ext (Pipeline.Window.rect_emb_val_of_index_zero win0_4 t0_0 a (by revert a; exact (by decide +kernel : ∀ a : Fin 2, win0_4.index t0_0 a = 0)) y)
theorem iblk0_eq (c : Dev nD) : iblk m c 0 t0_0 = V m c main_arg0 := by
  exact funext fun y => congrArg (V m c main_arg0) (emb0 F y)
theorem iblk1_eq (c : Dev nD) : iblk m c 1 t0_0 = V m c main_v3 := by
  exact funext fun y => congrArg (V m c main_v3) (emb1 F y)
theorem iblk2_eq (c : Dev nD) : iblk m c 2 t0_0 = V m c main_v2 := by
  exact funext fun y => congrArg (V m c main_v2) (emb2 F y)
theorem iblk3_eq (c : Dev nD) : iblk m c 3 t0_0 = V m c main_v4 := by
  exact funext fun y => congrArg (V m c main_v4) (emb3 F y)

/-- The array the result's window leaves: its one block, the whole array. -/
theorem result_array (c : Dev nD) : (dats m 0 c).arrAt 4 (cfg0 (F := F)).N
    = bodyOut (V m c main_arg0) (V m c main_v3) (V m c main_v2) (V m c main_v4) := by
  refine (dats m 0 c).arrAt_eq_of_cover 4 _ (fun t _ => ?_) (fun i => ⟨t0_0, flush0_4 _, ?_⟩)
  · rw [fin_N0 t, ← iblk0_eq, ← iblk1_eq, ← iblk2_eq, ← iblk3_eq]
    funext y
    exact (congrArg (outBlk m c t0_0) (emb4 F y)).symm
  · have h := (((cfg0 (F := F)).win 4).blk t0_0).view.emb_mem_set i
    exact (emb4 F i) ▸ h

/-- The run, its result named: what the body computes of the points and of what the host made of them. -/
theorem run : θ_run defs (onTc (τ := τ) (main (F := F))) ⟨m, fun _ => 0, ρ⟩ (fun r => (∀ c : Dev nD,
      r.2.mem ((c.tc : Thread nD τ).loc main_v5) = bodyOut (V m c main_arg0) (V m c main_v3) (V m c main_v2) (V m c main_v4)
      ∧ r.2.mem ((c.tc : Thread nD τ).loc main_arg0) = m ((c.tc : Thread nD τ).loc main_arg0))
      ∧ r.2.sem = fun _ => 0) :=
  (θ_run defs _ _).mono (fun r (h : _ ∧ _) => ⟨fun c => ⟨((h.1 c).1 4).trans (result_array m c),
    (((h.1 c).1 0).trans ((dats m 0 c).arrAt_in 0 rfl _)).trans (V_main_arg0 m c)⟩, h.2⟩) (run_main m ρ)

end Cert.Proof.PI

end
-- ==== Proof.Ref.Frame.lean ====
/-
  The reference's run: it ends with its argument unchanged and every counter at zero, and its result is the fold of its
  host operations.
-/
module

public import proofs.«01_k».proof.Proof.Gen.ReferenceIdeal.Run
public import Idealize.ShloMosaic.Lib.Quiescent

@[expose] public section

noncomputable section

namespace Cert.Proof.Ref

open Cert.ReferenceIdeal Cert.ReferenceIdeal.Gen Cert.ReferenceIdeal.Value
open Idealize.ShloMosaic Idealize.ShloMosaic.TcCoe Idealize.SL.Sem
open Idealize.ShloMosaic.StableHlo

variable {F : FTy → Type} [FloatOps F]

set_option maxRecDepth 100000 in
/-- None of the operations before the loop writes the argument. -/
theorem arg0_pre (V : Valuation τ sig (Elt F)) : afterL preI V (Proc.devRef .tc main_arg0) = V (Proc.devRef .tc main_arg0) := by
  simp only [afterL_cons, afterL_nil]
  rw [after_of_writes_sub hostOps0_2 _ hostOps0_2_writes (by decide +kernel),
    after_of_writes_sub hostOps0_1 _ hostOps0_1_writes (by decide +kernel),
    after_of_writes_sub hostOps0 _ hostOps0_writes (by decide +kernel)]

set_option maxRecDepth 100000 in
/-- Neither the loop's condition nor its body writes the argument. -/
theorem arg0_trip (V : Valuation τ sig (Elt F)) :
    afterL bodyI (after condOps V) (Proc.devRef .tc main_arg0) = V (Proc.devRef .tc main_arg0) := by
  simp only [afterL_cons, afterL_nil]
  rw [after_of_writes_sub while0Ops0_2 _ while0Ops0_2_writes (by decide +kernel),
    after_of_writes_sub while0Ops0_1 _ while0Ops0_1_writes (by decide +kernel),
    after_of_writes_sub while0Ops0 _ while0Ops0_writes (by decide +kernel),
    after_of_writes_sub condOps _ condOps_writes (by decide +kernel)]

set_option maxRecDepth 100000 in
/-- None of the operations after the loop writes the argument. -/
theorem arg0_post (V : Valuation τ sig (Elt F)) : afterL postI V (Proc.devRef .tc main_arg0) = V (Proc.devRef .tc main_arg0) := by
  rw [afterL_eq_after_flatten]
  refine after_of_forall_not_mem _ _ (List.forall_iff_forall_mem.mp ?_)
  simp only [postI, List.flatten_cons, List.flatten_nil, List.append_nil, List.cons_append, List.nil_append, List.Forall,
    nullary_writes, unary_writes, binary_writes, ternary_writes, reshape_writes, Finset.mem_singleton]
  repeat' apply And.intro
  all_goals decide

/-- The argument ends as it began. -/
theorem arg0_final (m : (ℓ : Loc nD τ sig) → Buf (Elt F) ℓ) (c : Dev nD) (n : ℕ) :
    finalContents condOps preI bodyI postI n m c (Proc.devRef .tc main_arg0) = m (c.tc.loc main_arg0) := by
  have h : ∀ k, atK m k c (Proc.devRef .tc main_arg0) = m (c.tc.loc main_arg0) := by
    intro k
    induction k with
    | zero => exact (arg0_pre _).trans rfl
    | succ k ih => exact (arg0_trip _).trans ih
  show afterL postI (after condOps (atK m n c)) _ = _
  rw [arg0_post, after_of_writes_sub condOps _ condOps_writes (by decide +kernel)]
  exact h n

/-- The reference's run: the result's fold, the argument unchanged, every counter at zero. -/
theorem run (m : (ℓ : Loc nD τ sig) → Buf (Elt F) ℓ) (ρ : Dev nD → PrngReg) :
    θ_run (defs (F := F)) (onTc (τ := τ) (main (F := F))) ⟨m, fun _ => 0, ρ⟩ (fun r =>
      (∀ c : Dev nD, r.2.mem ((c.tc : Thread nD τ).loc main_v48) = finalContents condOps preI bodyI postI 64 m c (Proc.devRef .tc main_v48)
        ∧ r.2.mem ((c.tc : Thread nD τ).loc main_arg0) = m ((c.tc : Thread nD τ).loc main_arg0))
      ∧ r.2.sem = fun _ => 0) :=
  (θ_run _ _ _).mono (fun _ h => ⟨fun c => ⟨h c main_v48 (by decide), (h c main_arg0 (by decide)).trans (arg0_final m c 64)⟩,
    sem_eq_zero_of_no_sems (by decide) _⟩) (run_fold m ρ)

end Cert.Proof.Ref

end

end
-- ==== Proof.Value.Nat.lean ====
/-
  The clustering, in natural numbers: what the reference's sweep does to a labelling, what the kernel's sweep does to
  the two copies it keeps, and that both end at the same labels of the core points once the reference's are settled.
  A kernel's copy is compared through the complement to 8192, which turns the smaller label into the larger number.
-/
module

public import Mathlib.Data.Finset.Lattice.Fold
public import Mathlib.Data.Finset.Fold
public import Mathlib.Data.Fintype.Basic
public import Mathlib.Order.Lattice
public import Mathlib.Tactic.Linarith
public import Mathlib.Algebra.BigOperators.Fin
public import Mathlib.Algebra.Order.BigOperators.Group.Finset

@[expose] public section

noncomputable section

namespace Cert.Proof.Value

open Classical

/-- Point `x` of block `k`. -/
def pt (k : Fin 8) (x : Fin 512) : Fin 4096 := ⟨512 * k.val + x.val, by omega⟩

/-- The block of a point, and its place there. -/
def blockOf (i : Fin 4096) : Fin 8 := ⟨i.val / 512, by omega⟩
def placeOf (i : Fin 4096) : Fin 512 := ⟨i.val % 512, by omega⟩

theorem pt_blockOf (i : Fin 4096) : pt (blockOf i) (placeOf i) = i := by
  apply Fin.ext
  show 512 * (i.val / 512) + i.val % 512 = i.val
  omega

theorem blockOf_pt (k : Fin 8) (x : Fin 512) : blockOf (pt k x) = k := by
  apply Fin.ext
  show (512 * k.val + x.val) / 512 = k.val
  omega

variable (A : Fin 4096 → Fin 4096 → Prop) (C : Fin 4096 → Prop)

/-- One sweep of the reference: the least label among a core point's own and its core neighbours'. -/
def jstep (F : Fin 4096 → ℕ) (i : Fin 4096) : ℕ :=
  min (F i) (Finset.univ.fold min 4096 fun j => if A i j ∧ C i ∧ C j then F j else 4096)

/-- The labels before the first sweep: a core point's own number. -/
def start (i : Fin 4096) : ℕ := if C i then i.val else 4096

/-- The value one block of the kernel's sweep gives a point, from the row `va` and the column `vb`. -/
def blk (va vb : Fin 4096 → ℕ) (i : Fin 4096) : ℕ :=
  if 0 < vb i then max (vb i) (Finset.univ.sup fun j => if A i j then va j else 0) else 0

/-- The maximum a block adds to. -/
def upd (va M vb : Fin 4096 → ℕ) (k : Fin 8) (j : Fin 4096) : ℕ :=
  max (M j) (Finset.univ.sup fun x : Fin 512 => if A (pt k x) j then blk A va vb (pt k x) else 0)

/-- The two rows a sweep carries, before its block `k`. -/
def rows (vb a : Fin 4096 → ℕ) : ℕ → (Fin 4096 → ℕ) × (Fin 4096 → ℕ)
  | 0 => (a, fun _ => 0)
  | k + 1 => if h : k < 8 then
      (fun j => if 0 < (rows vb a k).1 j then
          max ((rows vb a k).1 j) (upd A (rows vb a k).1 (rows vb a k).2 vb ⟨k, h⟩ j) else 0,
        upd A (rows vb a k).1 (rows vb a k).2 vb ⟨k, h⟩)
    else rows vb a k

/-- A copy of the labels as the sweep works on it: complemented on core points, 0 elsewhere. -/
def flip (r : Fin 4096 → ℕ) (i : Fin 4096) : ℕ := if C i then 8192 - r i else 0

/-- The row and the column after a sweep, and whether a core point's label in the row became less. -/
def newRow (r c : Fin 4096 → ℕ) (j : Fin 4096) : ℕ := min (r j) (8192 - (rows A (flip C c) (flip C r) 8).2 j)
def newCol (r c : Fin 4096 → ℕ) (i : Fin 4096) : ℕ :=
  if C i then 8192 - blk A (rows A (flip C c) (flip C r) (blockOf i).val).1 (flip C c) i else c i
def moved (r c : Fin 4096 → ℕ) : Prop := ∃ j, C j ∧ newRow A C r c j < r j

/-- At most `n` sweeps, as long as the one before changed something. -/
def loop : ℕ → (Fin 4096 → ℕ) → (Fin 4096 → ℕ) → Prop → (Fin 4096 → ℕ) × (Fin 4096 → ℕ)
  | 0, r, c, _ => (r, c)
  | n + 1, r, c, go => if go then loop n (newRow A C r c) (newCol A C r c) (moved A C r c) else (r, c)

/-! ### The reference's sweep -/

variable {A C}

theorem jstep_le (F : Fin 4096 → ℕ) (i : Fin 4096) : jstep A C F i ≤ F i := min_le_left _ _

theorem jstep_le_nb (F : Fin 4096 → ℕ) {i j : Fin 4096} (h : A i j) (hi : C i) (hj : C j) : jstep A C F i ≤ F j := by
  refine le_trans (min_le_right _ _) ?_
  refine le_trans (((Finset.le_fold_min _).mp le_rfl).2 j (Finset.mem_univ j)) ?_
  simp [h, hi, hj]

theorem le_jstep {F : Fin 4096 → ℕ} {i : Fin 4096} {n : ℕ} (hn : n ≤ 4096) (h0 : n ≤ F i)
    (h : ∀ j, A i j → C i → C j → n ≤ F j) : n ≤ jstep A C F i := by
  refine le_min h0 ((Finset.le_fold_min _).mpr ⟨hn, fun j _ => ?_⟩)
  by_cases hh : A i j ∧ C i ∧ C j
  · rw [if_pos hh]
    exact h j hh.1 hh.2.1 hh.2.2
  · rw [if_neg hh]
    exact hn

theorem start_le (i : Fin 4096) : start C i ≤ 4096 := by
  unfold start
  split_ifs <;> omega

theorem iter_le (t : ℕ) (i : Fin 4096) : (jstep A C)^[t] (start C) i ≤ start C i := by
  induction t with
  | zero => exact le_rfl
  | succ t ih =>
    rw [Function.iterate_succ_apply']
    exact le_trans (jstep_le _ _) ih

theorem iter_le_4096 (t : ℕ) (i : Fin 4096) : (jstep A C)^[t] (start C) i ≤ 4096 := le_trans (iter_le t i) (start_le i)

theorem iter_anti {s t : ℕ} (h : s ≤ t) (i : Fin 4096) :
    (jstep A C)^[t] (start C) i ≤ (jstep A C)^[s] (start C) i := by
  induction h with
  | refl => exact le_rfl
  | step _ ih =>
    rw [Function.iterate_succ_apply']
    exact le_trans (jstep_le _ _) ih

/-! ### One sweep of the kernel, between the settled labels and the reference's -/

section Sweep
variable {F : Fin 4096 → ℕ} (hsym : ∀ i j, A i j → A j i) (hself : ∀ i, A i i) (hfix : ∀ i, jstep A C F i = F i)
  (hF : ∀ i, F i ≤ 4096)

include hfix hsym in
theorem nb_eq {i j : Fin 4096} (h : A i j) (hi : C i) (hj : C j) : F i = F j := by
  apply le_antisymm
  · rw [← hfix i]
    exact jstep_le_nb F h hi hj
  · rw [← hfix j]
    exact jstep_le_nb F (hsym i j h) hj hi

variable {r c : Fin 4096 → ℕ} (hr : ∀ i, C i → F i ≤ r i ∧ r i ≤ 4096) (hc : ∀ i, C i → F i ≤ c i ∧ c i ≤ 4096)

theorem flip_pos {i : Fin 4096} (h : 0 < flip C c i) : C i := by
  unfold flip at h
  by_contra hn
  rw [if_neg hn] at h
  omega

include hsym hfix hc in
theorem blk_le {va : Fin 4096 → ℕ} (h : ∀ j, C j → va j ≤ 8192 - F j) (h0 : ∀ j, ¬C j → va j = 0) (i : Fin 4096)
    (hi : C i) : blk A va (flip C c) i ≤ 8192 - F i := by
  unfold blk
  split_ifs with hp
  · refine max_le ?_ (Finset.sup_le fun j _ => ?_)
    · unfold flip
      rw [if_pos hi]
      have := hc i hi
      omega
    · split_ifs with ha
      · by_cases hj : C j
        · rw [nb_eq hsym hfix ha hi hj]
          exact h j hj
        · rw [h0 j hj]
          exact Nat.zero_le _
      · exact Nat.zero_le _
  · exact Nat.zero_le _

theorem blk_of_not {va : Fin 4096 → ℕ} (i : Fin 4096) (hi : ¬C i) : blk A va (flip C c) i = 0 := by
  unfold blk
  exact if_neg fun h => hi (flip_pos h)

include hsym hfix hr hc in
theorem rows_bound (k : ℕ) : (∀ j, C j → 8192 - r j ≤ (rows A (flip C c) (flip C r) k).1 j ∧
      (rows A (flip C c) (flip C r) k).1 j ≤ 8192 - F j ∧ (rows A (flip C c) (flip C r) k).2 j ≤ 8192 - F j) ∧
    (∀ j, ¬C j → (rows A (flip C c) (flip C r) k).1 j = 0) := by
  induction k with
  | zero =>
    constructor
    · intro j hj
      have := hr j hj
      simp only [rows, flip, if_pos hj]
      omega
    · intro j hj
      simp only [rows, flip, if_neg hj]
  | succ k ih =>
    by_cases h : k < 8
    swap
    · rw [rows, dif_neg h]
      exact ih
    rw [rows, dif_pos h]
    constructor
    · intro j hj
      have h3 := ih.1 j hj
      have h4 := hr j hj
      have hu : upd A (rows A (flip C c) (flip C r) k).1 (rows A (flip C c) (flip C r) k).2 (flip C c) ⟨k, h⟩ j ≤ 8192 - F j := by
        refine max_le h3.2.2 (Finset.sup_le fun x _ => ?_)
        split_ifs with ha
        · by_cases hi : C (pt ⟨k, h⟩ x)
          · rw [← nb_eq hsym hfix ha hi hj]
            exact blk_le hsym hfix hc (fun j hj => (ih.1 j hj).2.1) ih.2 _ hi
          · rw [blk_of_not _ hi]
            exact Nat.zero_le _
        · exact Nat.zero_le _
      refine ⟨?_, ?_, hu⟩
      · show _ ≤ ite _ _ _
        rw [if_pos (by omega)]
        exact le_trans h3.1 (le_max_left _ _)
      · show ite _ _ _ ≤ _
        rw [if_pos (by omega)]
        exact max_le h3.2.1 hu
    · intro j hj
      show ite _ _ _ = _
      rw [ih.2 j hj]
      simp

theorem rows_mono (vb a : Fin 4096 → ℕ) (k : ℕ) (j : Fin 4096) : (rows A vb a k).2 j ≤ (rows A vb a (k + 1)).2 j := by
  by_cases h : k < 8
  · rw [rows, dif_pos h]
    exact le_max_left _ _
  · rw [rows, dif_neg h]

theorem rows_mono' (vb a : Fin 4096 → ℕ) {k m : ℕ} (h : k ≤ m) (j : Fin 4096) : (rows A vb a k).2 j ≤ (rows A vb a m).2 j := by
  induction h with
  | refl => exact le_rfl
  | step _ ih => exact le_trans ih (rows_mono vb a _ j)

theorem blk_le_rows (vb a : Fin 4096 → ℕ) {i j : Fin 4096} (h : A i j) :
    blk A (rows A vb a (blockOf i).val).1 vb i ≤ (rows A vb a 8).2 j := by
  have hk := (blockOf i).isLt
  refine le_trans ?_ (rows_mono' vb a (Nat.succ_le_of_lt hk) j)
  rw [Nat.succ_eq_add_one, rows, dif_pos hk]
  refine le_trans ?_ (le_max_right _ _)
  have := Finset.le_sup (f := fun x : Fin 512 => if A (pt (blockOf i) x) j then
    blk A (rows A vb a (blockOf i).val).1 vb (pt (blockOf i) x) else 0) (Finset.mem_univ (placeOf i))
  simp only [pt_blockOf, if_pos h] at this
  exact this

include hsym hfix hr hc hF in
/-- The column's new label: not above the old column's, nor above the old row's at a neighbour, nor below the settled one. -/
theorem newCol_bound (i : Fin 4096) (hi : C i) :
    F i ≤ newCol A C r c i ∧ newCol A C r c i ≤ c i ∧ ∀ j, A i j → C j → newCol A C r c i ≤ r j := by
  have hb := rows_bound hsym hfix hr hc (blockOf i).val
  have hle := blk_le hsym hfix hc (fun j hj => (hb.1 j hj).2.1) hb.2 i hi
  have hFi := hF i
  have hci := hc i hi
  have hfl : flip C c i = 8192 - c i := by rw [flip, if_pos hi]
  have hv : flip C c i ≤ blk A (rows A (flip C c) (flip C r) (blockOf i).val).1 (flip C c) i := by
    conv_rhs => rw [blk]
    rw [if_pos (by omega)]
    exact le_max_left _ _
  rw [newCol, if_pos hi]
  refine ⟨by omega, by omega, fun j ha hj => ?_⟩
  have hw : (rows A (flip C c) (flip C r) (blockOf i).val).1 j
      ≤ blk A (rows A (flip C c) (flip C r) (blockOf i).val).1 (flip C c) i := by
    conv_rhs => rw [blk]
    rw [if_pos (by omega)]
    refine le_trans ?_ (le_max_right _ _)
    have := Finset.le_sup (f := fun j => if A i j then (rows A (flip C c) (flip C r) (blockOf i).val).1 j else 0)
      (Finset.mem_univ j)
    simp only [if_pos ha] at this
    exact this
  have := (hb.1 j hj).1
  omega

include hsym hfix hr hc hF in
/-- The row's new label: not above the old row's, nor above the new column's at a neighbour, nor below the settled one. -/
theorem newRow_bound (j : Fin 4096) (hj : C j) :
    F j ≤ newRow A C r c j ∧ newRow A C r c j ≤ r j ∧ ∀ i, A i j → C i → newRow A C r c j ≤ newCol A C r c i := by
  have hb := ((rows_bound hsym hfix hr hc 8).1 j hj).2.2
  have hFj := hF j
  refine ⟨le_min (hr j hj).1 (by omega), min_le_left _ _, fun i ha hi => le_trans (min_le_right _ _) ?_⟩
  rw [newCol, if_pos hi]
  exact Nat.sub_le_sub_left (blk_le_rows _ _ ha) _

end Sweep

/-! ### The loop -/

section Loop
variable (hsym : ∀ i j, A i j → A j i) (hself : ∀ i, A i i)
  (hfix : ∀ i, jstep A C ((jstep A C)^[64] (start C)) i = (jstep A C)^[64] (start C) i)

include hsym hself hfix in
theorem loop_eq (n : ℕ) : ∀ (t : ℕ) (r c : Fin 4096 → ℕ) (go : Prop), n + t = 64 →
    (∀ i, C i → (jstep A C)^[64] (start C) i ≤ r i ∧ r i ≤ (jstep A C)^[t] (start C) i) →
    (∀ i, C i → (jstep A C)^[64] (start C) i ≤ c i ∧ c i ≤ (jstep A C)^[t] (start C) i) →
    (go ∨ ∀ i, C i → r i ≤ (jstep A C)^[64] (start C) i ∧ c i ≤ (jstep A C)^[64] (start C) i) →
    ∀ i, C i → (loop A C n r c go).1 i = (jstep A C)^[64] (start C) i ∧ (loop A C n r c go).2 i = (jstep A C)^[64] (start C) i := by
  induction n with
  | zero =>
    intro t r c go ht hr hc _ i hi
    obtain rfl : t = 64 := by omega
    exact ⟨le_antisymm (hr i hi).2 (hr i hi).1, le_antisymm (hc i hi).2 (hc i hi).1⟩
  | succ n ih =>
    intro t r c go ht hr hc hgo i hi
    by_cases hg : go
    swap
    · have := (hgo.resolve_left hg) i hi
      rw [loop, if_neg hg]
      exact ⟨le_antisymm this.1 (hr i hi).1, le_antisymm this.2 (hc i hi).1⟩
    rw [loop, if_pos hg]
    have hr' : ∀ i, C i → (jstep A C)^[64] (start C) i ≤ r i ∧ r i ≤ 4096 :=
      fun i hi => ⟨(hr i hi).1, le_trans (hr i hi).2 (iter_le_4096 t i)⟩
    have hc' : ∀ i, C i → (jstep A C)^[64] (start C) i ≤ c i ∧ c i ≤ 4096 :=
      fun i hi => ⟨(hc i hi).1, le_trans (hc i hi).2 (iter_le_4096 t i)⟩
    have hcol := newCol_bound hsym hfix (iter_le_4096 64) hr' hc'
    have hrow := newRow_bound hsym hfix (iter_le_4096 64) hr' hc'
    have hup : ∀ i, C i → newCol A C r c i ≤ (jstep A C)^[t + 1] (start C) i := by
      intro i hi
      rw [Function.iterate_succ_apply']
      refine le_jstep (le_trans (hcol i hi).2.1 (hc' i hi).2) (le_trans (hcol i hi).2.1 (hc i hi).2) fun j ha _ hj => ?_
      exact le_trans ((hcol i hi).2.2 j ha hj) (hr j hj).2
    refine ih (t + 1) _ _ _ (by omega) (fun i hi => ⟨(hrow i hi).1, ?_⟩) (fun i hi => ⟨(hcol i hi).1, hup i hi⟩) ?_ i hi
    · exact le_trans ((hrow i hi).2.2 i (hself i) hi) (hup i hi)
    by_cases hm : moved A C r c
    · exact Or.inl hm
    refine Or.inr ?_
    have heq : ∀ j, C j → r j ≤ newRow A C r c j := by
      intro j hj
      by_contra hlt
      exact hm ⟨j, hj, not_le.mp hlt⟩
    have hle : ∀ s, ∀ j, C j → r j ≤ (jstep A C)^[s] (start C) j := by
      intro s
      induction s with
      | zero => exact fun j hj => le_trans (hr j hj).2 (iter_le t j)
      | succ s ihs =>
        intro j hj
        rw [Function.iterate_succ_apply']
        refine le_jstep (hr' j hj).2 (ihs j hj) fun l ha _ hl => ?_
        refine le_trans (heq j hj) (le_trans ((hrow j hj).2.2 j (hself j) hj) (le_trans ((hcol j hj).2.2 l ha hl) (ihs l hl)))
    intro i hi
    exact ⟨le_trans (hrow i hi).2.1 (hle 64 i hi), le_trans ((hcol i hi).2.2 i (hself i) hi) (hle 64 i hi)⟩

include hsym hself hfix in
/-- The kernel's two copies end, on core points, at the labels of the reference. -/
theorem loop_settled (i : Fin 4096) (hi : C i) :
    (loop A C 64 (start C) (start C) True).1 i = (jstep A C)^[64] (start C) i ∧
      (loop A C 64 (start C) (start C) True).2 i = (jstep A C)^[64] (start C) i :=
  loop_eq hsym hself hfix 64 0 _ _ True rfl (fun i _ => ⟨iter_le 64 i, le_rfl⟩) (fun i _ => ⟨iter_le 64 i, le_rfl⟩)
    (Or.inl trivial) i hi

end Loop

/-! ### Ranks and labels -/

variable (A C)

/-- How many of the points marked by `rep` have a number at most `m`. -/
def count (rep : Fin 4096 → Prop) (m : ℕ) : ℕ := ∑ i : Fin 4096, if i.val ≤ m ∧ rep i then 1 else 0

theorem count_le (rep : Fin 4096 → Prop) (m : ℕ) : count rep m ≤ 4096 := by
  refine le_trans (Finset.sum_le_sum (g := fun _ => 1) fun i _ => ?_) (by simp)
  split_ifs <;> omega

/-- A core point's label is its rank; another's the least rank of a core neighbour, or -1 where it has none. -/
def label (acc : Fin 4096 → ℕ) (i : Fin 4096) : ℤ :=
  if C i then (acc i : ℤ) - 1 else
    if (Finset.univ.fold min 4097 fun j => if A i j ∧ C j then (acc j : ℤ) - 1 else 4097) < 4097 then
      Finset.univ.fold min 4097 fun j => if A i j ∧ C j then (acc j : ℤ) - 1 else 4097
    else -1

/-- The greatest complemented rank of a core neighbour; 0 where there is none. -/
def top (acc : Fin 4096 → ℕ) (i : Fin 4096) : ℕ :=
  Finset.univ.sup fun j => if A i j then (if C j then 8193 - acc j else 0) else 0

theorem label_eq (acc : Fin 4096 → ℕ) (hacc : ∀ i, acc i ≤ 4096) (i : Fin 4096) :
    label A C acc i = if C i then (acc i : ℤ) - 1 else
      if (8192 : ℤ) - top A C acc i < 4097 then (8192 : ℤ) - top A C acc i else -1 := by
  unfold label
  by_cases hi : C i
  · rw [if_pos hi, if_pos hi]
  rw [if_neg hi, if_neg hi]
  have hmin := (Finset.le_fold_min (s := Finset.univ) (b := (4097 : ℤ))
    (f := fun j => if A i j ∧ C j then (acc j : ℤ) - 1 else 4097) _).mp le_rfl
  have hsup : ∀ j, A i j → C j → 8193 - acc j ≤ top A C acc i := by
    intro j ha hj
    have := Finset.le_sup (f := fun j => if A i j then (if C j then 8193 - acc j else 0) else 0) (Finset.mem_univ j)
    simp only [if_pos ha, if_pos hj] at this
    exact this
  obtain ⟨j, -, hj⟩ := Finset.exists_mem_eq_sup Finset.univ ⟨i, Finset.mem_univ i⟩
    (fun j => if A i j then (if C j then 8193 - acc j else 0) else 0)
  change top A C acc i = ite _ _ _ at hj
  by_cases hn : ∃ j, A i j ∧ C j
  · obtain ⟨l, ha, hl⟩ := hn
    have hl1 := hsup l ha hl
    have hl2 := hacc l
    have key : (Finset.univ.fold min 4097 fun j => if A i j ∧ C j then (acc j : ℤ) - 1 else 4097)
        = (8192 : ℤ) - top A C acc i := by
      apply le_antisymm
      · have hm := hmin.2 j (Finset.mem_univ j)
        have hj2 := hacc j
        by_cases h1 : A i j
        · by_cases h2 : C j
          · rw [if_pos ⟨h1, h2⟩] at hm
            rw [if_pos h1, if_pos h2] at hj
            omega
          · rw [if_pos h1, if_neg h2] at hj
            omega
        · rw [if_neg h1] at hj
          omega
      · refine (Finset.le_fold_min _).mpr ⟨by omega, fun j _ => ?_⟩
        by_cases hh : A i j ∧ C j
        · rw [if_pos hh]
          have := hsup j hh.1 hh.2
          have := hacc j
          omega
        · rw [if_neg hh]
          omega
    rw [key]
  · have h0 : top A C acc i = 0 := by
      rw [hj]
      split_ifs with h1 h2
      · exact absurd ⟨j, h1, h2⟩ hn
      · rfl
      · rfl
    rw [h0, if_neg (not_lt.mpr ((Finset.le_fold_min _).mpr ⟨le_rfl, fun j _ => ?_⟩)), if_neg (by norm_num)]
    rw [if_neg fun h => hn ⟨j, h⟩]

end Cert.Proof.Value
-- ==== Proof.Value.Words.lean ====
/-
  Words of 1 and of 32 bits as the numbers and the statements they stand for.
-/
module

public import Idealize.ShloMosaic.PureOps.Ideal.Laws
public import Mathlib.Data.Finset.Fold
public import Mathlib.Algebra.BigOperators.Group.Finset.Basic
public import Idealize.ShloMosaic.Lib.Routing.OpsOne

@[expose] public section

noncomputable section

namespace Cert.Proof.Value

open Classical
open Idealize.ShloMosaic

/-- A select, a conjunction and a decided statement, as what they decide. -/
theorem select_eq {α : Type} (b : BitVec 1) (x y : α) : Scalar.select b x y = if b = 1#1 then x else y := rfl

theorem andi_eq_one (a b : BitVec 1) : IntOp.andi a b = 1#1 ↔ a = 1#1 ∧ b = 1#1 := by
  revert a b
  decide

theorem ofBool_eq_one (p : Prop) [Decidable p] : BitVec.ofBool (decide p) = 1#1 ↔ p := by
  by_cases h : p <;> simp [h]

/-- The signed minimum is the minimum of the numbers, over any finite set of them. -/
theorem toInt_minsi (a b : BitVec 32) : (IntOp.minsi a b).toInt = min a.toInt b.toInt := by
  unfold IntOp.minsi
  by_cases h : a.slt b
  · rw [if_pos h]
    rw [BitVec.slt_iff_toInt_lt] at h
    exact (min_eq_left h.le).symm
  · rw [if_neg h]
    rw [BitVec.slt_iff_toInt_lt] at h
    exact (min_eq_right (not_lt.mp h)).symm

/-- A small natural number as a word. -/
theorem toInt_small {n : ℕ} (h : n ≤ 8192) : (BitVec.ofNat 32 n).toInt = n := by
  have e : (BitVec.ofNat 32 n).toNat = n := by
    rw [BitVec.toNat_ofNat]
    omega
  rw [BitVec.toInt_eq_toNat_of_lt (by omega), e]

theorem ofNat_of_toInt {b : BitVec 32} {n : ℕ} (h : n ≤ 8192) (hb : b.toInt = n) : b = BitVec.ofNat 32 n :=
  BitVec.eq_of_toInt_eq (hb.trans (toInt_small h).symm)

/-- A signed minimum over a set is the minimum of the numbers. -/
theorem toInt_fold {ι : Type} (s : Finset ι) (b : BitVec 32) (f : ι → BitVec 32) :
    (s.fold IntOp.minsi b f).toInt = s.fold min b.toInt fun i => (f i).toInt :=
  (Finset.fold_hom (op := IntOp.minsi) (op' := min) (m := BitVec.toInt) toInt_minsi).symm

/-- A minimum from a greater number than one of the values is the minimum from a lesser such number. -/
theorem fold_min_base {ι : Type} (s : Finset ι) (f : ι → ℤ) {b b' : ℤ} (h : b ≤ b') {j : ι} (hj : j ∈ s) (hf : f j ≤ b) :
    s.fold min b' f = s.fold min b f := by
  have h1 := (Finset.le_fold_min (s := s) (b := b') (f := f) _).mp le_rfl
  have h2 := (Finset.le_fold_min (s := s) (b := b) (f := f) _).mp le_rfl
  apply le_antisymm
  · exact (Finset.le_fold_min _).mpr ⟨(h1.2 j hj).trans hf, h1.2⟩
  · exact (Finset.le_fold_min _).mpr ⟨h2.1.trans h, h2.2⟩

theorem cast_fold_min {ι : Type} (s : Finset ι) (f : ι → ℕ) (b : ℕ) :
    ((s.fold min b f : ℕ) : ℤ) = s.fold min (b : ℤ) fun i => (f i : ℤ) :=
  (Finset.fold_hom (op := min) (op' := min) (m := fun n : ℕ => (n : ℤ)) Nat.cast_min).symm

/-- A sum of words is the word of the sum. -/
theorem sum_ofNat {ι : Type} (s : Finset ι) (f : ι → ℕ) :
    (∑ i ∈ s, BitVec.ofNat 32 (f i)) = BitVec.ofNat 32 (∑ i ∈ s, f i) := by
  induction s using Finset.induction_on with
  | empty => rfl
  | insert a s ha ih => rw [Finset.sum_insert ha, Finset.sum_insert ha, ih, BitVec.ofNat_add]

end Cert.Proof.Value
-- ==== Proof.Value.Real.lean ====
/-
  Natural numbers as extended reals, and the constants of the two programs.
-/
module

public import Idealize.ShloMosaic.PureOps.Ideal.Laws
public import Idealize.ShloMosaic.Lib.IdealHost

@[expose] public section

noncomputable section

namespace Cert.Proof.Value

open Idealize.ShloMosaic

/-- The natural number `n` as an extended real. -/
def nat (n : ℕ) : EReal := ((n : ℝ) : EReal)

theorem nat_zero : nat 0 = 0 := by simp [nat]
theorem nat_one : nat 1 = 1 := by simp [nat]

/-- Order, maximum, minimum and arithmetic of natural numbers as extended reals. -/
theorem nat_lt {a b : ℕ} : nat a < nat b ↔ a < b := by simp [nat]
theorem nat_le {a b : ℕ} : nat a ≤ nat b ↔ a ≤ b := by simp [nat]
theorem nat_inj {a b : ℕ} : nat a = nat b ↔ a = b := by simp [nat]
theorem nat_pos {a : ℕ} : 0 < nat a ↔ 0 < a := by rw [← nat_zero, nat_lt]

theorem nat_max (a b : ℕ) : max (nat a) (nat b) = nat (max a b) :=
  ((show Monotone nat from fun _ _ h => nat_le.mpr h).map_max).symm
theorem nat_min (a b : ℕ) : min (nat a) (nat b) = nat (min a b) :=
  ((show Monotone nat from fun _ _ h => nat_le.mpr h).map_min).symm

theorem nat_mul (a b : ℕ) : nat a * nat b = nat (a * b) := by
  simp only [nat, Nat.cast_mul, EReal.coe_mul]

theorem nat_add (a b : ℕ) : nat a + nat b = nat (a + b) := by
  simp only [nat, Nat.cast_add, EReal.coe_add]

theorem nat_sub {a b : ℕ} (h : b ≤ a) : nat a - nat b = nat (a - b) := by
  simp only [nat, Nat.cast_sub h, EReal.coe_sub]

theorem nat_ite (p : Prop) [Decidable p] (a b : ℕ) : (if p then nat a else nat b) = nat (if p then a else b) := by
  split_ifs <;> rfl

theorem nat_sum {ι : Type} (s : Finset ι) (f : ι → ℕ) : (∑ i ∈ s, nat (f i)) = nat (∑ i ∈ s, f i) := by
  classical
  induction s using Finset.induction_on with
  | empty => exact nat_zero.symm
  | insert a s ha ih => rw [Finset.sum_insert ha, Finset.sum_insert ha, ih, nat_add]

/-- A maximum of natural numbers from minus infinity. -/
theorem nat_fold_max {ι : Type} (s : Finset ι) (f : ι → ℕ) {j : ι} (hj : j ∈ s) :
    s.fold max ⊥ (fun i => nat (f i)) = nat (s.sup f) := by
  apply le_antisymm
  · exact (Finset.fold_max_le _).mpr ⟨bot_le, fun i hi => nat_le.mpr (Finset.le_sup hi)⟩
  · obtain ⟨i, hi, e⟩ := Finset.exists_mem_eq_sup s ⟨j, hj⟩ f
    rw [e]
    exact (Finset.le_fold_max _).mpr (Or.inr ⟨i, hi, le_rfl⟩)

/-! ### The constants -/

theorem k_8192 : Ideal.ofBits .f32 1174405120#32 = nat 8192 := by
  simp [Ideal.ofBits, Ideal.ieee, nat, -EReal.coe_mul, -EReal.coe_neg]
  norm_num
theorem k_4096 : Ideal.ofBits .f32 1166016512#32 = nat 4096 := by
  simp [Ideal.ofBits, Ideal.ieee, nat, -EReal.coe_mul, -EReal.coe_neg]
  norm_num
theorem k_4097 : Ideal.ofBits .f32 1166018560#32 = nat 4097 := by
  simp [Ideal.ofBits, Ideal.ieee, nat, -EReal.coe_mul, -EReal.coe_neg]
  norm_num
theorem k_10 : Ideal.ofBits .f32 1092616192#32 = nat 10 := by
  simp [Ideal.ofBits, Ideal.ieee, nat, -EReal.coe_mul, -EReal.coe_neg]
  norm_num
theorem k_121 : Ideal.ofBits .f32 1123155968#32 = ((121 : ℝ) : EReal) := by
  simp [Ideal.ofBits, Ideal.ieee, -EReal.coe_mul, -EReal.coe_neg]
  norm_num
theorem k_neg_121 : Ideal.ofBits .f32 3270639616#32 = ((-121 : ℝ) : EReal) := by
  simp [Ideal.ofBits, Ideal.ieee, -EReal.coe_mul, -EReal.coe_neg]
  norm_num
theorem k_2 : Ideal.ofBits .f32 1073741824#32 = ((2 : ℝ) : EReal) := by
  simp [Ideal.ofBits, Ideal.ieee, -EReal.coe_mul, -EReal.coe_neg]
  norm_num
theorem k_neg_1 : Ideal.ofBits .f32 3212836864#32 = ((-1 : ℝ) : EReal) := by
  simp [Ideal.ofBits, Ideal.ieee, -EReal.coe_mul, -EReal.coe_neg]
  norm_num
theorem k_bot : Ideal.ofBits .f32 4286578688#32 = ⊥ := by
  simp [Ideal.ofBits, Ideal.ieee, -EReal.coe_mul, -EReal.coe_neg]
theorem k_top : Ideal.ofBits .f32 0x7F800000#32 = ⊤ := by
  simp [Ideal.ofBits, Ideal.ieee, -EReal.coe_mul, -EReal.coe_neg]

end Cert.Proof.Value
-- ==== Proof.Value.KernelBlock.lean ====
/-
  The numbers of the kernel's body on labels that are natural numbers: one block of a sweep, and one sweep.
-/
module

public import proofs.«01_k».proof.Proof.PI.Model
public import proofs.«01_k».proof.Proof.Value.Nat
public import proofs.«01_k».proof.Proof.Value.Words
public import proofs.«01_k».proof.Proof.Value.Real
public import Idealize.ShloMosaic.Lib.Pointwise

@[expose] public section

noncomputable section

namespace Cert.Proof.Value

open Classical
open Idealize.ShloMosaic
open Cert.KernelIdeal Cert.KernelIdeal.Gen
open Cert.Proof.PI (part glue blkOf within place carry colBlk sweepRow sweepCol sweepGo sweeps ranks labels)

/-- An entry of a block, and an entry of an array of blocks. -/
theorem part_read {d : ℕ} {α : Type} (k : Fin 8) (f : (PI.Tall d).Idx → α) (x : Fin 512) (j : Fin d) :
    part k f (ix2 x j) = f (ix2 (pt k x) j) := rfl

theorem glue_read {d : ℕ} {α : Type} (P : Fin 8 → (PI.Blk d).Idx → α) (i : Fin 4096) (j : Fin d) :
    glue P (ix2 i j) = P (blockOf i) (ix2 (placeOf i) j) := rfl

/-- The row and the column hold the natural numbers `r`. -/
def HoldsRow (row : FVec Ideal S1x4096 .f32) (r : Fin 4096 → ℕ) : Prop := ∀ j, row (ix2 0 j) = nat (r j)
def HoldsCol (col : FVec Ideal S4096x1 .f32) (r : Fin 4096 → ℕ) : Prop := ∀ i, col (ix2 i 0) = nat (r i)

section
variable [Cert.KernelIdeal.Facts]
variable (A : Fin 4096 → Fin 4096 → Prop) (C : Fin 4096 → Prop)

/-- The matrix of bytes `J` holds `A`. -/
def HoldsAdj (J : Vec Ideal S4096x4096 .i8) : Prop :=
  ∀ i j, FloatOps.sitofp (F := Ideal) .f32 (J (ix2 i j)) = nat (if A i j then 1 else 0)

section Block
variable {A} {J : Vec Ideal S4096x4096 .i8} (hJ : HoldsAdj A J) (k : Fin 8)
variable {a m : FVec Ideal S1x4096 .f32} {w : Vec Ideal S4096x1 .f32} {va vm vb : Fin 4096 → ℕ}
variable (ha : HoldsRow a va) (hm : HoldsRow m vm) (hw : HoldsCol w vb)

include hJ ha hw in
/-- The column's new values in block `k`, the maximum the row adds to, and the row's new values. -/
theorem pay9_read (x : Fin 512) :
    k0_pay9 a (part (d := 4096) k J) (part (d := 1) k w) (ix2 x 0) = nat (blk A va vb (pt k x)) := by
  have e : k0_pay9 a (part (d := 4096) k J) (part (d := 1) k w) (ix2 x 0)
      = if 0 < part (d := 1) k w (ix2 x 0) then max (part (d := 1) k w (ix2 x 0))
          (Finset.fold max (Ideal.ofBits .f32 4286578688#32) (fun y => k0_pay8 (part (d := 4096) k J) (ix2 x y) * a (ix2 0 y)) Finset.univ)
        else 0 := by
    pointwise [k0_pay9]
  have e2 : ∀ y, k0_pay8 (part (d := 4096) k J) (ix2 x y) * a (ix2 0 y) = nat (if A (pt k x) y then va y else 0) := by
    intro y
    rw [show k0_pay8 (part (d := 4096) k J) (ix2 x y) = FloatOps.sitofp (F := Ideal) .f32 (J (ix2 (pt k x) y)) from rfl, hJ, ha, nat_mul]
    simp only [ite_mul, one_mul, zero_mul]
  rw [e, part_read, hw, k_bot]
  simp only [e2]
  rw [nat_fold_max _ _ (Finset.mem_univ (0 : Fin 4096)), nat_max, blk]
  by_cases h : 0 < vb (pt k x)
  · rw [if_pos h, if_pos (nat_pos.mpr h)]
  · rw [if_neg h, if_neg fun h' => h (nat_pos.mp h'), nat_zero]

include hJ ha hw hm in
theorem pay11_read (j : Fin 4096) :
    k0_pay11 a m (part (d := 4096) k J) (part (d := 1) k w) (ix2 0 j) = nat (upd A va vm vb k j) := by
  have e : k0_pay11 a m (part (d := 4096) k J) (part (d := 1) k w) (ix2 0 j)
      = max (m (ix2 0 j)) (Finset.fold max (Ideal.ofBits .f32 4286578688#32)
          (fun y => k0_pay8 (part (d := 4096) k J) (ix2 y j) * k0_pay9 a (part (d := 4096) k J) (part (d := 1) k w) (ix2 y 0)) Finset.univ) := by
    pointwise [k0_pay11]
  have e2 : ∀ y, k0_pay8 (part (d := 4096) k J) (ix2 y j) * k0_pay9 a (part (d := 4096) k J) (part (d := 1) k w) (ix2 y 0)
      = nat (if A (pt k y) j then blk A va vb (pt k y) else 0) := by
    intro y
    rw [show k0_pay8 (part (d := 4096) k J) (ix2 y j) = FloatOps.sitofp (F := Ideal) .f32 (J (ix2 (pt k y) j)) from rfl, hJ,
      pay9_read hJ k ha hw, nat_mul]
    simp only [ite_mul, one_mul, zero_mul]
  rw [e, hm, k_bot]
  simp only [e2]
  rw [nat_fold_max _ _ (Finset.mem_univ (0 : Fin 512)), nat_max, upd]

include hJ ha hw hm in
theorem pay12_read (j : Fin 4096) :
    k0_pay12 a m (part (d := 4096) k J) (part (d := 1) k w) (ix2 0 j)
      = nat (if 0 < va j then max (va j) (upd A va vm vb k j) else 0) := by
  have e : k0_pay12 a m (part (d := 4096) k J) (part (d := 1) k w) (ix2 0 j)
      = if 0 < a (ix2 0 j) then max (a (ix2 0 j)) (k0_pay11 a m (part (d := 4096) k J) (part (d := 1) k w) (ix2 0 j)) else 0 := by
    pointwise [k0_pay12]
  rw [e, pay11_read hJ k ha hm hw, ha, nat_max]
  by_cases h : 0 < va j
  · rw [if_pos h, if_pos (nat_pos.mpr h)]
  · rw [if_neg h, if_neg fun h' => h (nat_pos.mp h'), nat_zero]

include hJ ha hw in
/-- The two rows before block `n`. -/
theorem carry_read (n : ℕ) : HoldsRow (carry J w a n).1 (rows A vb va n).1 ∧ HoldsRow (carry J w a n).2 (rows A vb va n).2 := by
  induction n with
  | zero =>
    refine ⟨ha, fun j => ?_⟩
    have e : k0_pay7 (F := Ideal) (ix2 0 j) = 0 := by
      pointwise [k0_pay7]
    exact e.trans nat_zero.symm
  | succ n ih =>
    unfold carry rows
    by_cases h : n < 8
    · rw [dif_pos h, dif_pos h]
      exact ⟨pay12_read hJ ⟨n, h⟩ ih.1 ih.2 hw, pay11_read hJ ⟨n, h⟩ ih.1 ih.2 hw⟩
    · rw [dif_neg h, dif_neg h]
      exact ih

end Block

/-! ### Everything stays at most 8192 -/

section Bounds
variable {A} {va vb : Fin 4096 → ℕ} (ha : ∀ i, va i ≤ 8192) (hb : ∀ i, vb i ≤ 8192)

include ha hb in
theorem blk_le_8192 (i : Fin 4096) : blk A va vb i ≤ 8192 := by
  unfold blk
  split_ifs
  · refine max_le (hb i) (Finset.sup_le fun j _ => ?_)
    split_ifs
    · exact ha j
    · omega
  · omega

include ha hb in
theorem rows_le (n : ℕ) : (∀ i, (rows A vb va n).1 i ≤ 8192) ∧ ∀ i, (rows A vb va n).2 i ≤ 8192 := by
  induction n with
  | zero => exact ⟨ha, fun _ => Nat.zero_le _⟩
  | succ n ih =>
    unfold rows
    by_cases h : n < 8
    · rw [dif_pos h]
      have hu : ∀ i, upd A (rows A vb va n).1 (rows A vb va n).2 vb ⟨n, h⟩ i ≤ 8192 := by
        intro i
        refine max_le (ih.2 i) (Finset.sup_le fun x _ => ?_)
        split_ifs
        · exact blk_le_8192 ih.1 hb _
        · omega
      refine ⟨fun i => ?_, hu⟩
      dsimp only
      split_ifs
      · exact max_le (ih.1 i) (hu i)
      · omega
    · rw [dif_neg h]
      exact ih

end Bounds

theorem flip_le (r : Fin 4096 → ℕ) (i : Fin 4096) : flip C r i ≤ 8192 := by
  unfold flip
  split_ifs <;> omega

/-! ### One sweep -/

section Sweep
variable {A C} {J : Vec Ideal S4096x4096 .i8} {v14 : IVec S4096x1 1} {v11 : IVec S1x4096 1}
variable (hJ : HoldsAdj A J) (h14 : ∀ i, v14 (ix2 i 0) = 1#1 ↔ C i) (h11 : ∀ j, v11 (ix2 0 j) = 1#1 ↔ C j)
variable {row : FVec Ideal S1x4096 .f32} {col : FVec Ideal S4096x1 .f32} {r c : Fin 4096 → ℕ}
variable (hr : HoldsRow row r) (hc : HoldsCol col c) (hr8 : ∀ i, r i ≤ 8192) (hc8 : ∀ i, c i ≤ 8192)

include h14 hc hc8 in
/-- The copies of the labels the sweep works on. -/
theorem pay5_read : HoldsCol (k0_pay5 v14 col) (flip C c) := by
  intro i
  have e : k0_pay5 v14 col (ix2 i 0) = Scalar.select (v14 (ix2 i 0)) (Ideal.ofBits .f32 1174405120#32 - col (ix2 i 0)) 0 := by
    pointwise [k0_pay5]
  rw [e, select_eq, hc, k_8192, nat_sub (hc8 i), flip]
  by_cases h : C i
  · rw [if_pos h, if_pos ((h14 i).mpr h)]
  · rw [if_neg h, if_neg fun h' => h ((h14 i).mp h'), nat_zero]

include h11 hr hr8 in
theorem pay6_read : HoldsRow (k0_pay6 v11 row) (flip C r) := by
  intro i
  have e : k0_pay6 v11 row (ix2 0 i) = Scalar.select (v11 (ix2 0 i)) (Ideal.ofBits .f32 1174405120#32 - row (ix2 0 i)) 0 := by
    pointwise [k0_pay6]
  rw [e, select_eq, hr, k_8192, nat_sub (hr8 i), flip]
  by_cases h : C i
  · rw [if_pos h, if_pos ((h11 i).mpr h)]
  · rw [if_neg h, if_neg fun h' => h ((h11 i).mp h'), nat_zero]

include hJ h14 h11 hr hc hr8 hc8 in
theorem sweep_carry (n : ℕ) :
    HoldsRow (carry J (k0_pay5 v14 col) (k0_pay6 v11 row) n).1 (rows A (flip C c) (flip C r) n).1 ∧
    HoldsRow (carry J (k0_pay5 v14 col) (k0_pay6 v11 row) n).2 (rows A (flip C c) (flip C r) n).2 :=
  carry_read hJ (pay6_read h11 hr hr8) (pay5_read h14 hc hc8) n

include hJ h14 h11 hr hc hr8 hc8 in
/-- The row, the column and the flag after a sweep. -/
theorem sweepRow_read : HoldsRow (sweepRow J v14 v11 row col) (newRow A C r c) := by
  intro j
  have e : ∀ mx : FVec Ideal S1x4096 .f32, k0_pay13 row mx (ix2 0 j) = min (row (ix2 0 j)) (Ideal.ofBits .f32 1174405120#32 - mx (ix2 0 j)) := by
    intro mx
    pointwise [k0_pay13]
  rw [sweepRow, e, (sweep_carry hJ h14 h11 hr hc hr8 hc8 8).2, hr, k_8192,
    nat_sub ((rows_le (A := A) (flip_le C r) (flip_le C c) 8).2 j), nat_min, newRow]

include hJ h14 h11 hr hc hr8 hc8 in
theorem sweepCol_read : HoldsCol (sweepCol J v14 v11 row col) (newCol A C r c) := by
  intro i
  have e : ∀ b : Vec Ideal S4096x1 .f32, k0_pay14 v14 col b (ix2 i 0)
      = Scalar.select (v14 (ix2 i 0)) (Ideal.ofBits .f32 1174405120#32 - b (ix2 i 0)) (col (ix2 i 0)) := by
    intro b
    pointwise [k0_pay14]
  have e2 : glue (d := 1) (colBlk J (k0_pay5 v14 col) (k0_pay6 v11 row)) (ix2 i 0)
      = nat (blk A (rows A (flip C c) (flip C r) (blockOf i).val).1 (flip C c) i) := by
    rw [glue_read, colBlk]
    have e3 : ∀ (a : FVec Ideal S1x4096 .f32) (Jb : Vec Ideal S512x4096 .i8) (wb : Vec Ideal S512x1 .f32),
        k0_pay10 a Jb wb (ix2 (placeOf i) 0) = k0_pay9 a Jb wb (ix2 (placeOf i) 0) := by
      intro a Jb wb
      pointwise [k0_pay10]
    rw [e3, pay9_read hJ _ (sweep_carry hJ h14 h11 hr hc hr8 hc8 _).1 (pay5_read h14 hc hc8), pt_blockOf]
  rw [sweepCol, e, e2, select_eq, hc, k_8192, newCol,
    nat_sub (blk_le_8192 (A := A) (rows_le (A := A) (flip_le C r) (flip_le C c) _).1 (flip_le C c) i)]
  by_cases h : C i
  · rw [if_pos h, if_pos ((h14 i).mpr h)]
  · rw [if_neg h, if_neg fun h' => h ((h14 i).mp h')]

include hJ h14 h11 hr hc hr8 hc8 in
theorem sweepGo_read : sweepGo J v14 v11 row col = 1#1 ↔ moved A C r c := by
  have e : ∀ mx : FVec Ideal S1x4096 .f32, k0_pay15 v11 row mx = Finset.fold max (Ideal.ofBits .f32 4286578688#32)
      (fun x => Scalar.select (IntOp.andi (v11 (ix2 0 x.2)) (BitVec.ofBool (decide (k0_pay13 row mx (ix2 0 x.2) < row (ix2 0 x.2))))) 1 0)
      (Finset.univ : Finset (Fin 1 × Fin 4096)) := by
    intro mx
    pointwise [k0_pay15]
  have e2 : ∀ x : Fin 1 × Fin 4096, Scalar.select (IntOp.andi (v11 (ix2 0 x.2)) (BitVec.ofBool (decide
      (k0_pay13 row (carry J (k0_pay5 v14 col) (k0_pay6 v11 row) 8).2 (ix2 0 x.2) < row (ix2 0 x.2))))) (1 : EReal) 0
      = nat (if C x.2 ∧ newRow A C r c x.2 < r x.2 then 1 else 0) := by
    intro x
    have h1 : k0_pay13 row (carry J (k0_pay5 v14 col) (k0_pay6 v11 row) 8).2 (ix2 0 x.2) = nat (newRow A C r c x.2) :=
      sweepRow_read hJ h14 h11 hr hc hr8 hc8 x.2
    have h2 : IntOp.andi (v11 (ix2 0 x.2)) (BitVec.ofBool (decide
        (k0_pay13 row (carry J (k0_pay5 v14 col) (k0_pay6 v11 row) 8).2 (ix2 0 x.2) < row (ix2 0 x.2)))) = 1#1
        ↔ C x.2 ∧ newRow A C r c x.2 < r x.2 := by
      rw [andi_eq_one, ofBool_eq_one, h1, hr, nat_lt, h11]
    rw [select_eq]
    by_cases h : C x.2 ∧ newRow A C r c x.2 < r x.2
    · rw [if_pos h, if_pos (h2.mpr h), nat_one]
    · rw [if_neg h, if_neg fun h' => h (h2.mp h'), nat_zero]
  have e3 : sweepGo J v14 v11 row col = BitVec.ofBool (decide (0 < k0_pay15 v11 row (carry J (k0_pay5 v14 col) (k0_pay6 v11 row) 8).2)) := by
    pointwise [sweepGo]
  rw [e3, ofBool_eq_one, e, k_bot]
  simp only [e2]
  rw [nat_fold_max _ _ (Finset.mem_univ ((0, 0) : Fin 1 × Fin 4096)), nat_pos, Finset.lt_sup_iff, moved]
  constructor
  · rintro ⟨x, -, h⟩
    by_contra hn
    rw [if_neg fun h' => hn ⟨x.2, h'⟩] at h
    omega
  · rintro ⟨j, h⟩
    exact ⟨(0, j), Finset.mem_univ _, by rw [if_pos h]; exact Nat.one_pos⟩

/-- The new labels are at most 8192 again. -/
theorem newRow_le (j : Fin 4096) (h : r j ≤ 8192) : newRow A C r c j ≤ 8192 := (min_le_left _ _).trans h

theorem newCol_le (i : Fin 4096) (h : c i ≤ 8192) : newCol A C r c i ≤ 8192 := by
  unfold newCol
  split_ifs
  · omega
  · exact h

end Sweep

/-! ### All sweeps -/

section
variable {A C} {J : Vec Ideal S4096x4096 .i8} {v14 : IVec S4096x1 1} {v11 : IVec S1x4096 1}
variable (hJ : HoldsAdj A J) (h14 : ∀ i, v14 (ix2 i 0) = 1#1 ↔ C i) (h11 : ∀ j, v11 (ix2 0 j) = 1#1 ↔ C j)

include hJ h14 h11 in
/-- At most `n` sweeps from labels of at most 8192. -/
theorem sweeps_read (n : ℕ) : ∀ (row : FVec Ideal S1x4096 .f32) (col : FVec Ideal S4096x1 .f32) (go : BitVec 1) (r c : Fin 4096 → ℕ) (g : Prop),
    HoldsRow row r → HoldsCol col c → (∀ i, r i ≤ 8192) → (∀ i, c i ≤ 8192) → (go = 1#1 ↔ g) →
    HoldsRow (sweeps J v14 v11 n row col go).1 (loop A C n r c g).1 ∧ HoldsCol (sweeps J v14 v11 n row col go).2.1 (loop A C n r c g).2 := by
  induction n with
  | zero => exact fun row col go r c g hr hc _ _ _ => ⟨hr, hc⟩
  | succ n ih =>
    intro row col go r c g hr hc hr8 hc8 hg
    unfold sweeps loop
    by_cases h : g
    · rw [if_pos h, if_pos (hg.mpr h)]
      exact ih _ _ _ _ _ _ (sweepRow_read hJ h14 h11 hr hc hr8 hc8) (sweepCol_read hJ h14 h11 hr hc hr8 hc8)
        (fun i => newRow_le i (hr8 i)) (fun i => newCol_le i (hc8 i)) (sweepGo_read hJ h14 h11 hr hc hr8 hc8)
    · rw [if_neg h, if_neg fun h' => h (hg.mp h')]
      exact ⟨hr, hc⟩

end

end

end Cert.Proof.Value
-- ==== Proof.Value.KernelRank.lean ====
/-
  The kernel's ranks and labels, entry by entry: the rank of a label counts the representatives up to it, and the
  label of a point that is not a core point comes from the greatest complemented rank beside it.
-/
module

public import proofs.«01_k».proof.Proof.Value.KernelBlock

@[expose] public section

noncomputable section

namespace Cert.Proof.Value

open Classical
open Idealize.ShloMosaic
open Cert.KernelIdeal Cert.KernelIdeal.Gen
open Cert.Proof.PI (part glue ranks labels)

/-! ### Sums by blocks -/

/-- A point is a block and a place there. -/
def pieces : Fin 8 × Fin 512 ≃ Fin 4096 where
  toFun p := pt p.1 p.2
  invFun i := (blockOf i, placeOf i)
  left_inv p := by
    refine Prod.ext (blockOf_pt p.1 p.2) (Fin.ext ?_)
    show (512 * p.1.val + p.2.val) % 512 = p.2.val
    omega
  right_inv i := pt_blockOf i

/-- A sum over the points is the sum over the blocks. -/
theorem sum_blocks (g : Fin 4096 → ℕ) : (∑ i, g i) = ∑ b : Fin 8, ∑ y : Fin 512, g (pt b y) :=
  (Fintype.sum_equiv pieces (fun p => g (pt p.1 p.2)) g fun _ => rfl).symm.trans (Fintype.sum_prod_type _)

/-- A sum over the blocks below `k + 1` is the one below `k` and block `k`. -/
theorem sum_below (s : Fin 8 → ℕ) (k : ℕ) (h : k < 8) :
    (∑ b : Fin 8, if b.val < k + 1 then s b else 0) = (∑ b : Fin 8, if b.val < k then s b else 0) + s ⟨k, h⟩ := by
  have e : ∀ b : Fin 8, (if b.val < k + 1 then s b else 0) = (if b.val < k then s b else 0) + if b = ⟨k, h⟩ then s b else 0 := by
    intro b
    by_cases h1 : b.val < k
    · rw [if_pos h1, if_pos (by omega), if_neg fun h2 => by have := congrArg Fin.val h2; simp at this; omega, add_zero]
    · by_cases h2 : b.val = k
      · rw [if_pos (by omega), if_neg h1, if_pos (Fin.ext h2), zero_add]
      · rw [if_neg (by omega), if_neg h1, if_neg fun h3 => h2 (congrArg Fin.val h3)]
  rw [Finset.sum_congr rfl fun b _ => e b, Finset.sum_add_distrib, Finset.sum_ite_eq' Finset.univ, if_pos (Finset.mem_univ _)]

/-! ### The ranks -/

/-- A small word and a flag as real numbers. -/
theorem sitofp_word (n : ℕ) (h : n ≤ 8192) : (FloatOps.sitofp (F := Ideal) .f32 (BitVec.ofNat 32 n) : EReal) = nat n := by
  show (((BitVec.ofNat 32 n).toInt : ℝ) : EReal) = nat n
  rw [toInt_small h, nat, Int.cast_natCast]

theorem sitofp_flag (p : Prop) [Decidable p] :
    (FloatOps.sitofp (F := Ideal) .f32 (BitVec.setWidth 32 (BitVec.ofBool (decide p))) : EReal) = nat (if p then 1 else 0) := by
  by_cases h : p
  · simp only [h, decide_true, if_true]
    exact sitofp_word 1 (by omega)
  · simp only [h, decide_false, if_false]
    exact sitofp_word 0 (by omega)

section
variable [Cert.KernelIdeal.Facts]

/-- The number of row `y` of block `k`, as the kernel computes it. -/
theorem word_pt (k : Fin 8) (y : Fin 512) :
    IntOp.addi (BitVec.ofNat 32 y.val) (Scalar.muli (Scf.iv 0#32 1#32 k.val) 512#32) = BitVec.ofNat 32 (pt k y).val := by
  apply BitVec.eq_of_toNat_eq
  have h1 := k.isLt
  have h2 := y.isLt
  show _ = (BitVec.ofNat 32 (512 * k.val + y.val)).toNat
  simp only [IntOp.addi, Scalar.muli, IntOp.muli, Scf.iv, BitVec.toNat_add, BitVec.toNat_mul, BitVec.toNat_ofNat]
  omega

section Ranks
variable {row : FVec Ideal S1x4096 .f32} {rep : Vec Ideal S4096x1 .f32} {r : Fin 4096 → ℕ} {p : Fin 4096 → Prop}
variable (hr : HoldsRow row r) (hp : HoldsCol rep fun i => if p i then 1 else 0)

include hr hp in
/-- The running count before block `k`. -/
theorem ranks_below (k : ℕ) : HoldsRow (ranks row rep k)
    fun j => ∑ b : Fin 8, if b.val < k then ∑ y : Fin 512, (if (pt b y).val ≤ r j ∧ p (pt b y) then 1 else 0) else 0 := by
  induction k with
  | zero =>
    intro j
    have e : k0_pay25 (F := Ideal) (ix2 0 j) = 0 := by
      pointwise [k0_pay25]
    refine e.trans ?_
    simp only [Nat.not_lt_zero, if_false, Finset.sum_const_zero, nat_zero]
  | succ k ih =>
    unfold ranks
    by_cases h : k < 8
    · rw [dif_pos h]
      intro j
      have e : ∀ acc : FVec Ideal S1x4096 .f32, k0_pay1 row 0#32 ⟨k, h⟩ acc (part (d := 1) ⟨k, h⟩ rep) (ix2 0 j)
          = acc (ix2 0 j) + ∑ y : Fin 512, FloatOps.sitofp (F := Ideal) .f32 (BitVec.setWidth 32 (BitVec.ofBool (decide
              (FloatOps.sitofp (F := Ideal) .f32 (IntOp.addi (BitVec.ofNat 32 y.val) (Scalar.muli (Scf.iv 0#32 1#32 k) 512#32)) ≤ row (ix2 0 j)))))
            * part (d := 1) ⟨k, h⟩ rep (ix2 y 0) := by
        intro acc
        pointwise [k0_pay1]
      have e2 : ∀ y : Fin 512, FloatOps.sitofp (F := Ideal) .f32 (BitVec.setWidth 32 (BitVec.ofBool (decide
              (FloatOps.sitofp (F := Ideal) .f32 (IntOp.addi (BitVec.ofNat 32 y.val) (Scalar.muli (Scf.iv 0#32 1#32 k) 512#32)) ≤ row (ix2 0 j)))))
            * part (d := 1) ⟨k, h⟩ rep (ix2 y 0)
          = nat (if (pt ⟨k, h⟩ y).val ≤ r j ∧ p (pt ⟨k, h⟩ y) then 1 else 0) := by
        intro y
        have h3 := word_pt ⟨k, h⟩ y
        dsimp only at h3
        rw [sitofp_flag, h3, sitofp_word _ (by omega), part_read, hp, nat_mul, hr]
        congr 1
        simp only [nat_le, ite_and, ite_mul, one_mul, zero_mul]
      rw [e, ih, Finset.sum_congr rfl fun y _ => e2 y, nat_sum, nat_add]
      exact congrArg nat (sum_below (fun b => ∑ y : Fin 512, (if (pt b y).val ≤ r j ∧ p (pt b y) then 1 else 0)) k h).symm
    · rw [dif_neg h]
      intro j
      refine (ih j).trans (congrArg nat (Finset.sum_congr rfl fun b _ => ?_))
      have := b.isLt
      rw [if_pos (by omega), if_pos (by omega)]

include hr hp in
/-- The counts at the end. -/
theorem ranks_read : HoldsRow (ranks row rep 8) fun j => count p (r j) := by
  intro j
  refine (ranks_below hr hp 8 j).trans (congrArg nat ?_)
  refine Eq.trans ?_ (sum_blocks fun i => if i.val ≤ r j ∧ p i then 1 else 0).symm
  refine Finset.sum_congr rfl fun b _ => ?_
  rw [if_pos b.isLt]

end Ranks

/-! ### The labels -/

section Labels
variable {A : Fin 4096 → Fin 4096 → Prop} {C : Fin 4096 → Prop}
variable {J : Vec Ideal S4096x4096 .i8} {D : Vec Ideal S4096x1 .f32} {v11 : IVec S1x4096 1} {rk : FVec Ideal S1x4096 .f32} {acc : Fin 4096 → ℕ}
variable (hJ : HoldsAdj A J) (hD : ∀ i, nat 10 ≤ D (ix2 i 0) ↔ C i) (h11 : ∀ j, v11 (ix2 0 j) = 1#1 ↔ C j)
variable (hk : HoldsRow rk acc) (hacc : ∀ i, acc i ≤ 4096)

/-- The rank is one less than the count. -/
theorem pay2_read (j : Fin 4096) (hk : HoldsRow rk acc) : k0_pay2 rk (ix2 0 j) = ((((acc j : ℤ) - 1 : ℤ) : ℝ) : EReal) := by
  have e : k0_pay2 rk (ix2 0 j) = rk (ix2 0 j) - 1 := by
    pointwise [k0_pay2]
  rw [e, hk, nat, ← EReal.coe_one, ← EReal.coe_sub]
  push_cast
  rfl

include hJ hD h11 hk hacc in
/-- The kernel's result from the adjacency, the core points and the counts. -/
theorem labels_read (i : Fin 4096) : labels J D v11 rk (ix2 i 0) = (((label A C acc i : ℤ) : ℝ) : EReal) := by
  have e : ∀ (Jb : Vec Ideal S512x4096 .i8) (d f : Vec Ideal S512x1 .f32) (x : Fin 512), k0_pay4 v11 rk Jb d f (ix2 x 0)
      = if Ideal.ofBits .f32 1092616192#32 ≤ f (ix2 x 0) then d (ix2 x 0)
        else if Ideal.ofBits .f32 1174405120#32 - (Finset.fold max (Ideal.ofBits .f32 4286578688#32) (fun y => Scalar.select (v11 (ix2 0 y))
            (FloatOps.sitofp (F := Ideal) .f32 (Jb (ix2 x y)) * (Ideal.ofBits .f32 1174405120#32 - k0_pay2 rk (ix2 0 y))) 0) Finset.univ)
            < Ideal.ofBits .f32 1166018560#32
          then Ideal.ofBits .f32 1174405120#32 - (Finset.fold max (Ideal.ofBits .f32 4286578688#32) (fun y => Scalar.select (v11 (ix2 0 y))
            (FloatOps.sitofp (F := Ideal) .f32 (Jb (ix2 x y)) * (Ideal.ofBits .f32 1174405120#32 - k0_pay2 rk (ix2 0 y))) 0) Finset.univ)
          else Ideal.ofBits .f32 3212836864#32 := by
    intro Jb d f x
    pointwise [k0_pay4]
  have e2 : ∀ y, Scalar.select (v11 (ix2 0 y)) (FloatOps.sitofp (F := Ideal) .f32 (part (d := 4096) (blockOf i) J (ix2 (placeOf i) y))
      * (Ideal.ofBits .f32 1174405120#32 - k0_pay2 rk (ix2 0 y))) 0 = nat (if A i y then (if C y then 8193 - acc y else 0) else 0) := by
    intro y
    have h1 : Ideal.ofBits .f32 1174405120#32 - k0_pay2 rk (ix2 0 y) = nat (8193 - acc y) := by
      rw [k_8192, pay2_read y hk, nat, nat, ← EReal.coe_sub, Nat.cast_sub (by have := hacc y; omega)]
      congr 1
      push_cast
      ring
    rw [part_read, pt_blockOf, hJ, h1, nat_mul, select_eq]
    by_cases h : C y
    · rw [if_pos ((h11 y).mpr h), if_pos h]
      simp only [ite_mul, one_mul, zero_mul]
    · rw [if_neg fun h' => h ((h11 y).mp h'), if_neg h, ite_self, nat_zero]
  have e3 : part (d := 1) (blockOf i) (k0_pay3 rk) (ix2 (placeOf i) 0) = ((((acc i : ℤ) - 1 : ℤ) : ℝ) : EReal) := by
    have h1 : ∀ z : Fin 4096, k0_pay3 rk (ix2 z 0) = k0_pay2 rk (ix2 0 z) := by
      intro z
      pointwise [k0_pay3]
    rw [part_read, pt_blockOf, h1, pay2_read i hk]
  have htop : top A C acc i ≤ 8193 := by
    refine Finset.sup_le fun j _ => ?_
    split_ifs <;> omega
  have e4 : nat 8192 - nat (top A C acc i) = ((((8192 : ℤ) - top A C acc i : ℤ) : ℝ) : EReal) := by
    rw [nat, nat, ← EReal.coe_sub]
    push_cast
    rfl
  have e5 : ((((8192 : ℤ) - top A C acc i : ℤ) : ℝ) : EReal) < nat 4097 ↔ (8192 : ℤ) - top A C acc i < 4097 := by
    rw [nat, EReal.coe_lt_coe_iff, show ((4097 : ℕ) : ℝ) = ((4097 : ℤ) : ℝ) by norm_num, Int.cast_lt]
  rw [labels, glue_read, e, e3]
  simp only [e2]
  rw [k_bot, nat_fold_max _ _ (Finset.mem_univ (0 : Fin 4096)), k_8192, k_4097, k_neg_1, k_10, part_read, pt_blockOf, label_eq A C acc hacc i]
  change (if _ then _ else if nat 8192 - nat (top A C acc i) < nat 4097 then nat 8192 - nat (top A C acc i) else _) = _
  rw [e4]
  by_cases h : C i
  · rw [if_pos h, if_pos ((hD i).mpr h)]
  · rw [if_neg h, if_neg fun h' => h ((hD i).mp h')]
    by_cases h2 : (8192 : ℤ) - top A C acc i < 4097
    · rw [if_pos h2, if_pos (e5.mpr h2)]
    · rw [if_neg h2, if_neg fun h' => h2 (e5.mp h')]
      norm_num

end Labels

end

end Cert.Proof.Value
-- ==== Proof.Value.RefTerms.lean ====
/-
  The reference's arrays as terms: what its operations before the loop, one trip of the loop, and its operations
  after the loop compute, from the points and from the labels.
-/
module

public import proofs.«01_k».proof.Proof.Gen.ReferenceIdeal.Run
public import proofs.«01_k».proof.Pre_settled
public import Idealize.ShloMosaic.Lib.StableHlo.RunRead
public import Idealize.ShloMosaic.PureOps.Ideal

@[expose] public section

set_option maxRecDepth 8192

noncomputable section

namespace Cert.Proof.Value

open Idealize.ShloMosaic Idealize.ShloMosaic.StableHlo
open Cert.ReferenceIdeal Cert.ReferenceIdeal.Facts₀ Cert.ReferenceIdeal.Facts

variable [Cert.ReferenceIdeal.Facts]

/-- The squared lengths. -/
def rSq (p : FVec Ideal S4096x64 .f32) : FVec Ideal S4096 .f32 :=
  Host.reduceAdd (mulf p p) (constant S_ .f32 0x00000000#32) reducesTo_S4096x64_S4096_d1 h_S_

/-- The adjacency matrix: squared distance below 121. -/
def rAdj (p : FVec Ideal S4096x64 .f32) : IVec S4096x4096 1 :=
  cmpf .olt
    (subf
      (addf (broadcastInDim S4096x4096 ![0, 1] bcast_S4096x1_S4096x4096_0_1 (broadcastInDim S4096x1 ![0] bcast_S4096_S4096x1_0 (rSq p)))
        (broadcastInDim S4096x4096 ![0, 1] bcast_S1x4096_S4096x4096_0_1 (broadcastInDim S1x4096 ![1] bcast_S4096_S1x4096_1 (rSq p))))
      (mulf (broadcastInDim S4096x4096 ![] bcast_S_S4096x4096 (constant S_ .f32 0x40000000#32))
        (Host.dotGeneral dot_S4096x64_S64x4096_S4096x4096_1_0_0_1_n_n none p
          (transpose S64x4096 [1, 0] p transposes_S4096x64_S64x4096_1_0))))
    (broadcastInDim S4096x4096 ![] bcast_S_S4096x4096 (constant S_ .f32 0x42F20000#32))

/-- The core points of an adjacency matrix: at least ten neighbours. -/
def rCore (adj : IVec S4096x4096 1) : IVec S4096 1 :=
  cmpi .sge (Host.reduce IntOp.addi (extui 32 adj natLt_1_32) (constantI S_ 32 0#32) reducesTo_S4096x4096_S4096_d1 h_S_)
    (broadcastInDim S4096 ![] bcast_S_S4096 (constantI S_ 32 10#32))

/-- The adjacency between core points. -/
def rBoth (adj : IVec S4096x4096 1) (core : IVec S4096 1) : IVec S4096x4096 1 :=
  andi
    (andi adj (broadcastInDim S4096x4096 ![0, 1] bcast_S4096x1_S4096x4096_0_1 (broadcastInDim S4096x1 ![0] bcast_S4096_S4096x1_0 core)))
    (broadcastInDim S4096x4096 ![0, 1] bcast_S1x4096_S4096x4096_0_1 (broadcastInDim S1x4096 ![1] bcast_S4096_S1x4096_1 core))

/-- The labels before the loop. -/
def rStart (core : IVec S4096 1) : IVec S4096 32 :=
  select core (iotaInDim S4096 32 0) (broadcastInDim S4096 ![] bcast_S_S4096 (id (constantI S_ 32 4096#32)))

/-- One trip of the loop on the labels. -/
def rStep (both : IVec S4096x4096 1) (comp : IVec S4096 32) : IVec S4096 32 :=
  minsi comp (Host.reduce IntOp.minsi
    (select both
      (broadcastInDim S4096x4096 ![0, 1] bcast_S1x4096_S4096x4096_0_1 (broadcastInDim S1x4096 ![1] bcast_S4096_S1x4096_1 comp))
      (broadcastInDim S4096x4096 ![] bcast_S_S4096x4096 (id (constantI S_ 32 4096#32))))
    (constantI S_ 32 2147483647#32) reducesTo_S4096x4096_S4096_d1 h_S_)

/-- The ranks by number: how many representatives up to it, less one. -/
def rRank (core : IVec S4096 1) (comp : IVec S4096 32) : IVec S4096 32 :=
  subi
    (Host.reduceWindow IntOp.addi ![4096] ![1] ![4095] ![0]
      (extui 32 (andi core (cmpi .eq comp (iotaInDim S4096 32 0))) natLt_1_32 : IVec S4096 32)
      (broadcastInDim S_ ![] bcast_S_S_ (constantI S_ 32 0#32)) reduceWindows_S4096_S4096_w4096s1p4095_0 h_S_)
    (broadcastInDim S4096 ![] bcast_S_S4096 (constantI S_ 32 1#32))

/-- The positions a take reads, a negative one counted from the end. -/
def rAt (idx : IVec S4096 32) : IVec S4096x1 32 :=
  broadcastInDim S4096x1 ![0] bcast_S4096_S4096x1_0
    (select (cmpi .slt idx (broadcastInDim S4096 ![] bcast_S_S4096 (constantI S_ 32 0#32)))
      (addi idx (broadcastInDim S4096 ![] bcast_S_S4096 (constantI S_ 32 4096#32))) idx)

/-- A take: the entry at each position, where the position is in range. -/
def rTake (x : IVec S4096 32) (idx : IVec S4096 32) : IVec S4096 32 :=
  select
    (Host.reduce IntOp.andi
      (andi
        (cmpi .sge (rAt idx) (broadcastInDim S4096x1 ![] bcast_S_S4096x1 (constantI S_ 32 0#32)))
        (cmpi .sle (rAt idx)
          (broadcastInDim S4096x1 ![0, 1] bcast_S1x1_S4096x1_0_1 (broadcastInDim S1x1 ![1] bcast_S1_S1x1_1 (constantI S1 32 4095#32)))))
      (constantI S_ 1 1#1) reducesTo_S4096x1_S4096_d1 h_S_)
    (Host.gather gather_S4096_S4096x1_S4096_n_0_n_n_0_1_1 x (rAt idx))
    (broadcastInDim S4096 ![] bcast_S_S4096 (constantI S_ 32 2147483648#32))

/-- The clusters of the points, by their labels. -/
def rCluster (core : IVec S4096 1) (comp : IVec S4096 32) : IVec S4096 32 :=
  rTake (rRank core comp) (minsi comp (broadcastInDim S4096 ![] bcast_S_S4096 (constantI S_ 32 4095#32)))

/-- The least cluster of a core neighbour. -/
def rBorder (adj : IVec S4096x4096 1) (core : IVec S4096 1) (clus : IVec S4096 32) : IVec S4096 32 :=
  Host.reduce IntOp.minsi
    (select (andi adj (broadcastInDim S4096x4096 ![0, 1] bcast_S1x4096_S4096x4096_0_1 (broadcastInDim S1x4096 ![1] bcast_S4096_S1x4096_1 core)))
      (broadcastInDim S4096x4096 ![0, 1] bcast_S1x4096_S4096x4096_0_1
        (broadcastInDim S1x4096 ![1] bcast_S4096_S1x4096_1
          (select core clus (broadcastInDim S4096 ![] bcast_S_S4096 (id (constantI S_ 32 4097#32))))))
      (broadcastInDim S4096x4096 ![] bcast_S_S4096x4096 (id (constantI S_ 32 4097#32))))
    (constantI S_ 32 2147483647#32) reducesTo_S4096x4096_S4096_d1 h_S_

/-- The labels as integers. -/
def rLabel (core : IVec S4096 1) (clus border : IVec S4096 32) : IVec S4096 32 :=
  select core clus
    (select (cmpi .slt border (broadcastInDim S4096 ![] bcast_S_S4096 (constantI S_ 32 4097#32))) border
      (broadcastInDim S4096 ![] bcast_S_S4096 (id (constantI S_ 32 4294967295#32))))

/-- The result. -/
def rOut (adj : IVec S4096x4096 1) (core : IVec S4096 1) (comp : IVec S4096 32) : FVec Ideal S4096x1 .f32 :=
  shapeCast S4096x1 (sitofp (F := Ideal) .f32 (rLabel core (rCluster core comp) (rBorder adj core (rCluster core comp)))) shapeCasts_S4096_S4096x1

end Cert.Proof.Value
-- ==== Proof.Value.RefRead.lean ====
/-
  The reference's arrays, entry by entry: its labels are those of the sweep on natural numbers, and its result is the
  label by ranks.
-/
module

public import proofs.«01_k».proof.Proof.Value.RefTerms
public import proofs.«01_k».proof.Proof.Value.Nat
public import proofs.«01_k».proof.Proof.Value.Words
public import Idealize.ShloMosaic.Lib.Pointwise
public import Idealize.ShloMosaic.Lib.Routing.OpsOne
public import Idealize.ShloMosaic.Lib.Routing.OpsSearch

@[expose] public section

noncomputable section

namespace Cert.Proof.Value

open Classical
open Idealize.ShloMosaic
open Cert.ReferenceIdeal

/-- A constant read at its only index. -/
theorem const_word (b : BitVec 32) : (id (constantI S_ 32 b) : IVec S_ 32) ix0 = b := rfl

/-! ### The sweeps -/

section
variable [Cert.ReferenceIdeal.Facts]
variable (adj : IVec S4096x4096 1) (core : IVec S4096 1)

/-- Two points are near, and a point is a core point. -/
def near (i j : Fin 4096) : Prop := adj (ix2 i j) = 1#1
def isCore (i : Fin 4096) : Prop := core (ix1 i) = 1#1

/-- The first labels. -/
theorem rStart_read (i : Fin 4096) : (rStart core (ix1 i)).toInt = start (isCore core) i := by
  have e : rStart core (ix1 i) = Scalar.select (core (ix1 i)) (BitVec.ofNat 32 i.val) 4096#32 := by
    pointwise [rStart]
    simp only [const_word]
  rw [e, select_eq, start, isCore]
  split_ifs
  · exact toInt_small (by omega)
  · rfl

/-- The pairs of core neighbours. -/
theorem rBoth_read (i j : Fin 4096) :
    rBoth adj core (ix2 i j) = 1#1 ↔ near adj i j ∧ isCore core i ∧ isCore core j := by
  have e : rBoth adj core (ix2 i j) = IntOp.andi (IntOp.andi (adj (ix2 i j)) (core (ix1 i))) (core (ix1 j)) := by
    pointwise [rBoth]
  rw [e, andi_eq_one, andi_eq_one, and_assoc]
  rfl

/-- One sweep. -/
theorem rStep_read (comp : IVec S4096 32) (F : Fin 4096 → ℕ) (hF : ∀ i, F i ≤ 4096) (hc : ∀ i, (comp (ix1 i)).toInt = F i)
    (i : Fin 4096) : (rStep (rBoth adj core) comp (ix1 i)).toInt = jstep (near adj) (isCore core) F i := by
  have e : rStep (rBoth adj core) comp (ix1 i) = IntOp.minsi (comp (ix1 i)) (Finset.fold IntOp.minsi (2147483647#32)
      (fun j => Scalar.select (rBoth adj core (ix2 i j)) (comp (ix1 j)) 4096#32) Finset.univ) := by
    pointwise [rStep]
    simp only [const_word]
  have e2 : ∀ j, (Scalar.select (rBoth adj core (ix2 i j)) (comp (ix1 j)) 4096#32).toInt
      = ((if near adj i j ∧ isCore core i ∧ isCore core j then F j else 4096 : ℕ) : ℤ) := by
    intro j
    rw [select_eq]
    by_cases h : near adj i j ∧ isCore core i ∧ isCore core j
    · rw [if_pos h, if_pos ((rBoth_read adj core i j).mpr h), hc]
    · rw [if_neg h, if_neg fun h' => h ((rBoth_read adj core i j).mp h')]
      rfl
  rw [e, toInt_minsi, toInt_fold, hc, jstep, Nat.cast_min, cast_fold_min]
  simp only [e2]
  rw [show (2147483647#32).toInt = 2147483647 from rfl]
  rw [fold_min_base _ _ (b := ((4096 : ℕ) : ℤ)) (by norm_num) (Finset.mem_univ i)]
  split_ifs
  · exact_mod_cast hF i
  · exact le_rfl

/-- Any number of sweeps. -/
theorem steps_read (k : ℕ) (i : Fin 4096) :
    ((rStep (rBoth adj core))^[k] (rStart core) (ix1 i)).toInt
      = (jstep (near adj) (isCore core))^[k] (start (isCore core)) i := by
  induction k generalizing i with
  | zero => exact rStart_read core i
  | succ k ih =>
    rw [Function.iterate_succ_apply', Function.iterate_succ_apply']
    exact rStep_read adj core _ _ (iter_le_4096 k) ih i

/-! ### The ranks and the labels -/

variable (comp : IVec S4096 32) (F : Fin 4096 → ℕ) (hF : ∀ i, F i ≤ 4096) (hc : ∀ i, (comp (ix1 i)).toInt = F i)

/-- The representatives: the core points that are their own label. -/
def isRep (C : Fin 4096 → Prop) (F : Fin 4096 → ℕ) (i : Fin 4096) : Prop := C i ∧ F i = i.val

include hF hc in
/-- The rank at `k` is one less than the number of representatives up to `k`. -/
theorem rRank_read (k : Fin 4096) : (rRank core comp (ix1 k)).toInt = (count (isRep (isCore core) F) k.val : ℤ) - 1 := by
  have hx : ∀ i : Fin 4096, (extui 32 (andi core (cmpi .eq comp (iotaInDim S4096 32 0))) Cert.ReferenceIdeal.Facts₀.natLt_1_32 : IVec S4096 32) (ix1 i)
      = BitVec.ofNat 32 (if isRep (isCore core) F i then 1 else 0) := by
    intro i
    have e : (extui 32 (andi core (cmpi .eq comp (iotaInDim S4096 32 0))) Cert.ReferenceIdeal.Facts₀.natLt_1_32 : IVec S4096 32) (ix1 i)
        = BitVec.setWidth 32 (IntOp.andi (core (ix1 i)) (IntOp.cmpi .eq (comp (ix1 i)) (BitVec.ofNat 32 i.val))) := by
      pointwise
    have h2 : IntOp.andi (core (ix1 i)) (IntOp.cmpi .eq (comp (ix1 i)) (BitVec.ofNat 32 i.val)) = 1#1
        ↔ isRep (isCore core) F i := by
      rw [andi_eq_one]
      refine and_congr Iff.rfl ?_
      rw [show IntOp.cmpi .eq (comp (ix1 i)) (BitVec.ofNat 32 i.val) = BitVec.ofBool (decide (comp (ix1 i) = BitVec.ofNat 32 i.val)) from rfl,
        ofBool_eq_one, ← BitVec.toInt_inj, hc, toInt_small (by omega)]
      exact Nat.cast_inj
    rw [e]
    by_cases h : isRep (isCore core) F i
    · rw [if_pos h, h2.mpr h]
      rfl
    · rw [if_neg h]
      have h0 : ∀ b : BitVec 1, b ≠ 1#1 → BitVec.setWidth 32 b = BitVec.ofNat 32 0 := by decide
      exact h0 _ fun h' => h (h2.mp h')
  have e : rRank core comp (ix1 k) = IntOp.subi (BitVec.ofNat 32 (count (isRep (isCore core) F) k.val)) 1#32 := by
    pointwise [rRank]
    refine congrArg (IntOp.subi · 1#32) ?_
    refine (Routing.cumsum_vec (N := 4096) (Nm1 := 4095) rfl _ _ rfl _ _ k).trans ?_
    rw [count, ← sum_ofNat]
    refine Finset.sum_congr rfl fun i _ => ?_
    by_cases h : i ≤ k
    · rw [if_pos h]
      refine (hx i).trans ?_
      have : i.val ≤ k.val := h
      simp only [this, true_and]
    · rw [if_neg h, if_neg fun h' => h h'.1]
      rfl
  rw [e]
  have hle := count_le (isRep (isCore core) F) k.val
  generalize count (isRep (isCore core) F) k.val = n at hle ⊢
  unfold IntOp.subi
  rw [BitVec.toInt_sub, toInt_small (by omega), show (1#32).toInt = 1 from rfl, Int.bmod_def]
  omega

/-- Taking at an index within the array reads the entry there. -/
theorem rTake_read (x idx : IVec S4096 32) (i : Fin 4096) (k : Fin 4096) (hk : idx (ix1 i) = BitVec.ofNat 32 k.val) :
    rTake x idx (ix1 i) = x (ix1 k) := by
  have hat : ∀ z : Fin 1, rAt idx (ix2 i z) = BitVec.ofNat 32 k.val := by
    intro z
    have e : rAt idx (ix2 i z) = Scalar.select (IntOp.cmpi .slt (idx (ix1 i)) 0#32) (IntOp.addi (idx (ix1 i)) 4096#32) (idx (ix1 i)) := by
      pointwise [rAt]
    rw [e, hk, select_eq, if_neg]
    rw [show IntOp.cmpi .slt (BitVec.ofNat 32 k.val) 0#32 = BitVec.ofBool (BitVec.slt (BitVec.ofNat 32 k.val) 0#32) from rfl,
      BitVec.slt_eq_decide, ofBool_eq_one, toInt_small (by omega)]
    simp
  have e : rTake x idx (ix1 i) = Scalar.select
      (Finset.fold IntOp.andi (1#1)
        (fun z : Fin 1 => IntOp.andi (IntOp.cmpi .sge (rAt idx (ix2 i z)) 0#32) (IntOp.cmpi .sle (rAt idx (ix2 i z)) 4095#32))
        Finset.univ)
      (Host.gather gather_S4096_S4096x1_S4096_n_0_n_n_0_1_1 x (rAt idx) (ix1 i)) 2147483648#32 := by
    pointwise [rTake]
  have hge : IntOp.cmpi .sge (BitVec.ofNat 32 k.val) 0#32 = 1#1 := by
    rw [show IntOp.cmpi .sge (BitVec.ofNat 32 k.val) 0#32 = BitVec.ofBool (BitVec.sle 0#32 (BitVec.ofNat 32 k.val)) from rfl,
      BitVec.sle_eq_decide, ofBool_eq_one, toInt_small (n := k.val) (by omega)]
    exact Int.natCast_nonneg _
  have hle : IntOp.cmpi .sle (BitVec.ofNat 32 k.val) 4095#32 = 1#1 := by
    rw [show IntOp.cmpi .sle (BitVec.ofNat 32 k.val) 4095#32 = BitVec.ofBool (BitVec.sle (BitVec.ofNat 32 k.val) 4095#32) from rfl,
      BitVec.sle_eq_decide, ofBool_eq_one, toInt_small (by omega)]
    have := k.isLt
    show (k.val : ℤ) ≤ 4095
    omega
  rw [e]
  simp only [hat, hge, hle]
  rw [select_eq, if_pos (by decide)]
  exact Routing.take_ap _ rfl rfl rfl rfl x (rAt idx) i k.isLt (by omega) (hat 0)

include hF hc in
theorem rCluster_read (i : Fin 4096) (hi : F i < 4096) :
    (rCluster core comp (ix1 i)).toInt = (count (isRep (isCore core) F) (F i) : ℤ) - 1 := by
  rw [rCluster, rTake_read _ _ i ⟨F i, hi⟩, rRank_read core comp F hF hc]
  have e : minsi comp (broadcastInDim S4096 ![] Cert.ReferenceIdeal.Facts₀.bcast_S_S4096 (constantI S_ 32 4095#32)) (ix1 i) = IntOp.minsi (comp (ix1 i)) 4095#32 := by
    pointwise
  rw [e]
  refine ofNat_of_toInt (by omega) ?_
  rw [toInt_minsi, hc]
  show min (F i : ℤ) 4095 = F i
  omega

variable (clus : IVec S4096 32) (acc : Fin 4096 → ℕ) (hacc : ∀ i, acc i ≤ 4096)
  (hclus : ∀ i, isCore core i → (clus (ix1 i)).toInt = (acc i : ℤ) - 1)

include hacc hclus in
theorem rBorder_read (i : Fin 4096) : (rBorder adj core clus (ix1 i)).toInt
    = Finset.univ.fold min 4097 fun j => if near adj i j ∧ isCore core j then (acc j : ℤ) - 1 else 4097 := by
  have e : rBorder adj core clus (ix1 i) = Finset.fold IntOp.minsi (2147483647#32)
      (fun j => Scalar.select (IntOp.andi (adj (ix2 i j)) (core (ix1 j))) (Scalar.select (core (ix1 j)) (clus (ix1 j)) 4097#32) 4097#32)
      Finset.univ := by
    pointwise [rBorder]
    simp only [const_word]
  have e2 : ∀ j, (Scalar.select (IntOp.andi (adj (ix2 i j)) (core (ix1 j))) (Scalar.select (core (ix1 j)) (clus (ix1 j)) 4097#32) 4097#32).toInt
      = if near adj i j ∧ isCore core j then (acc j : ℤ) - 1 else 4097 := by
    intro j
    rw [select_eq, select_eq]
    by_cases h : near adj i j ∧ isCore core j
    · rw [if_pos h, if_pos ((andi_eq_one _ _).mpr h), if_pos (show core (ix1 j) = 1#1 from h.2), hclus j h.2]
    · rw [if_neg h, if_neg fun h' => h ((andi_eq_one _ _).mp h')]
      rfl
  rw [e, toInt_fold]
  simp only [e2]
  refine fold_min_base _ _ (by decide) (Finset.mem_univ i) ?_
  split_ifs
  · have := hacc i
    omega
  · exact le_rfl

include hacc hclus in
theorem rLabel_read (i : Fin 4096) :
    (rLabel core clus (rBorder adj core clus) (ix1 i)).toInt = label (near adj) (isCore core) acc i := by
  have e : rLabel core clus (rBorder adj core clus) (ix1 i) = Scalar.select (core (ix1 i)) (clus (ix1 i))
      (Scalar.select (IntOp.cmpi .slt (rBorder adj core clus (ix1 i)) 4097#32) (rBorder adj core clus (ix1 i)) 4294967295#32) := by
    pointwise [rLabel]
    simp only [const_word]
  have hlt : IntOp.cmpi .slt (rBorder adj core clus (ix1 i)) 4097#32 = 1#1 ↔ (rBorder adj core clus (ix1 i)).toInt < 4097 := by
    rw [show IntOp.cmpi .slt (rBorder adj core clus (ix1 i)) 4097#32 = BitVec.ofBool (BitVec.slt (rBorder adj core clus (ix1 i)) 4097#32) from rfl,
      BitVec.slt_eq_decide, ofBool_eq_one]
    rfl
  rw [e, select_eq, select_eq, label, ← rBorder_read adj core clus acc hacc hclus i]
  by_cases h : isCore core i
  · rw [if_pos h, if_pos (show core (ix1 i) = 1#1 from h), hclus i h]
  · rw [if_neg h, if_neg (show ¬core (ix1 i) = 1#1 from h)]
    by_cases h2 : (rBorder adj core clus (ix1 i)).toInt < 4097
    · rw [if_pos h2, if_pos (hlt.mpr h2)]
    · rw [if_neg h2, if_neg fun h' => h2 (hlt.mp h')]
      rfl

end

end Cert.Proof.Value
-- ==== Proof.Value.Adj.lean ====
/-
  Adjacency and core points: on finite points the kernel's matrix and degrees say the same as the reference's. The
  kernel compares twice the inner product less the squared lengths with -121, the factor 2 being the square of the
  named constant, and the reference compares the squared distance with 121.
-/
module

public import proofs.«01_k».proof.Proof.Value.KernelRank
public import proofs.«01_k».proof.Proof.Value.RefRead

@[expose] public section

noncomputable section

namespace Cert.Proof.Value

open Classical
open Idealize.ShloMosaic
open Cert.KernelIdeal Cert.KernelIdeal.Gen
open Cert.Proof.PI (part glue)

/-- A sum of real numbers as extended reals. -/
theorem real_sum {ι : Type} (s : Finset ι) (f : ι → ℝ) : (∑ i ∈ s, ((f i : ℝ) : EReal)) = ((∑ i ∈ s, f i : ℝ) : EReal) := by
  induction s using Finset.induction_on with
  | empty => rfl
  | insert a s ha ih => rw [Finset.sum_insert ha, Finset.sum_insert ha, ih, EReal.coe_add]

section
variable {p : FVec Ideal S4096x64 .f32} {q : Fin 4096 → Fin 64 → ℝ} (hq : ∀ i l, p (ix2 i l) = ((q i l : ℝ) : EReal))

/-- The inner product of two points. -/
def dot (q : Fin 4096 → Fin 64 → ℝ) (i j : Fin 4096) : ℝ := ∑ l, q i l * q j l

include hq in
theorem sum_dot (i j : Fin 4096) : (∑ l, p (ix2 i l) * p (ix2 j l)) = ((dot q i j : ℝ) : EReal) := by
  simp only [hq, ← EReal.coe_mul]
  exact real_sum _ _

section Reference
variable [Cert.ReferenceIdeal.Facts]

include hq in
/-- Two points are near when their squared distance is less than 121. -/
theorem near_iff (i j : Fin 4096) : near (rAdj p) i j ↔ dot q i i + dot q j j - 2 * dot q i j < 121 := by
  have e : rAdj p (ix2 i j) = BitVec.ofBool (decide (rSq p (ix1 i) + rSq p (ix1 j)
      - Ideal.ofBits .f32 1073741824#32 * ∑ l, p (ix2 i l) * p (ix2 j l) < Ideal.ofBits .f32 1123155968#32)) := by
    pointwise [rAdj]
  have e2 : ∀ i : Fin 4096, rSq p (ix1 i) = ((dot q i i : ℝ) : EReal) := by
    intro i
    have h : rSq p (ix1 i) = ∑ l, p (ix2 i l) * p (ix2 i l) := by
      pointwise [rSq]
    rw [h, sum_dot hq]
  rw [near, e, ofBool_eq_one, e2, e2, sum_dot hq, k_2, k_121, ← EReal.coe_add, ← EReal.coe_mul, ← EReal.coe_sub, EReal.coe_lt_coe_iff]

include hq in
/-- Being near is symmetric and reflexive. -/
theorem near_symm (i j : Fin 4096) (h : near (rAdj p) i j) : near (rAdj p) j i := by
  rw [near_iff hq] at h ⊢
  have : dot q i j = dot q j i := Finset.sum_congr rfl fun l _ => mul_comm _ _
  rw [← this]
  linarith

include hq in
theorem near_self (i : Fin 4096) : near (rAdj p) i i := by
  rw [near_iff hq]
  linarith

/-- How many points are near a point. -/
def degree (A : Fin 4096 → Fin 4096 → Prop) (i : Fin 4096) : ℕ := ∑ j, if A i j then 1 else 0

theorem degree_le (A : Fin 4096 → Fin 4096 → Prop) (i : Fin 4096) : degree A i ≤ 4096 := by
  refine le_trans (Finset.sum_le_sum (g := fun _ => 1) fun j _ => ?_) (by simp)
  split_ifs <;> omega

/-- A core point has at least ten near points. -/
theorem isCore_iff (adj : IVec S4096x4096 1) (i : Fin 4096) : isCore (rCore adj) i ↔ 10 ≤ degree (near adj) i := by
  have e : rCore adj (ix1 i) = IntOp.cmpi .sge (Finset.fold IntOp.addi 0#32 (fun y => BitVec.setWidth 32 (adj (ix2 i y))) Finset.univ) 10#32 := by
    pointwise [rCore]
  have e2 : ∀ y, BitVec.setWidth 32 (adj (ix2 i y)) = BitVec.ofNat 32 (if near adj i y then 1 else 0) := by
    intro y
    by_cases h : near adj i y
    · rw [if_pos h, show adj (ix2 i y) = 1#1 from h]
      rfl
    · rw [if_neg h]
      have h0 : ∀ b : BitVec 1, b ≠ 1#1 → BitVec.setWidth 32 b = BitVec.ofNat 32 0 := by decide
      exact h0 _ h
  have e3 : Finset.fold IntOp.addi 0#32 (fun y => BitVec.setWidth 32 (adj (ix2 i y))) Finset.univ = BitVec.ofNat 32 (degree (near adj) i) := by
    simp only [e2]
    exact sum_ofNat _ _
  rw [isCore, e, e3]
  rw [show IntOp.cmpi .sge (BitVec.ofNat 32 (degree (near adj) i)) 10#32 = BitVec.ofBool (BitVec.sle 10#32 (BitVec.ofNat 32 (degree (near adj) i))) from rfl,
    BitVec.sle_eq_decide, ofBool_eq_one, toInt_small (n := degree (near adj) i) ((degree_le _ _).trans (by omega))]
  show (10 : ℤ) ≤ _ ↔ _
  omega

end Reference

section Kernel
variable [Cert.KernelIdeal.Facts] [Cert.ReferenceIdeal.Facts]
variable {A0 : Vec Ideal S4096x64 .f32} {A1 : Vec Ideal S64x4096 .f32} {A2 : Vec Ideal S4096x1 .f32} {A3 : Vec Ideal S1x4096 .f32}
variable (h0 : ∀ i l, A0 (ix2 i l) = p (ix2 i l)) (h1 : ∀ l i, A1 (ix2 l i) = p (ix2 i l))
  (h2 : ∀ i, A2 (ix2 i 0) = ∑ l, p (ix2 i l) * p (ix2 i l)) (h3 : ∀ i, A3 (ix2 0 i) = ∑ l, p (ix2 i l) * p (ix2 i l))

/-- The named constant is the square root of two. -/
theorem named_root : (Named.named (F := Ideal) Cert.KernelIdeal.κ "root_two" (φ := .f32) 1068827891#32 : EReal) = ((Real.sqrt 2 : ℝ) : EReal) := rfl

include hq h0 h1 h2 h3 in
/-- A byte of the kernel's matrix. -/
theorem byte_read (k : Fin 8) (x : Fin 512) (y : Fin 4096) :
    k0_pay16 A1 A3 (part (d := 64) k A0) (part (d := 1) k A2) (ix2 x y) = BitVec.setWidth 8 (BitVec.ofBool (decide (near (rAdj p) (pt k x) y))) := by
  have e : k0_pay16 A1 A3 (part (d := 64) k A0) (part (d := 1) k A2) (ix2 x y) = BitVec.setWidth 8 (BitVec.ofBool (decide
      (Ideal.ofBits .f32 3270639616#32 < ∑ l : Fin 64, part (d := 64) k A0 (ix2 x l) * Named.named (F := Ideal) κ "root_two" (φ := .f32) 1068827891#32
        * (A1 (ix2 l y) * Named.named (F := Ideal) κ "root_two" (φ := .f32) 1068827891#32) - (part (d := 1) k A2 (ix2 x 0) + A3 (ix2 0 y))))) := by
    pointwise [k0_pay16]
  have e2 : (∑ l : Fin 64, part (d := 64) k A0 (ix2 x l) * Named.named (F := Ideal) κ "root_two" (φ := .f32) 1068827891#32
      * (A1 (ix2 l y) * Named.named (F := Ideal) κ "root_two" (φ := .f32) 1068827891#32)) = ((2 * dot q (pt k x) y : ℝ) : EReal) := by
    rw [dot, Finset.mul_sum, ← real_sum]
    refine Finset.sum_congr rfl fun l _ => ?_
    rw [named_root, part_read, h0, h1, hq, hq, ← EReal.coe_mul, ← EReal.coe_mul, ← EReal.coe_mul]
    congr 1
    have := Real.mul_self_sqrt (show (0 : ℝ) ≤ 2 by norm_num)
    calc q (pt k x) l * Real.sqrt 2 * (q y l * Real.sqrt 2) = (Real.sqrt 2 * Real.sqrt 2) * (q (pt k x) l * q y l) := by ring
      _ = 2 * (q (pt k x) l * q y l) := by rw [this]
  have e3 : Ideal.ofBits .f32 3270639616#32 < ((2 * dot q (pt k x) y : ℝ) : EReal) - (part (d := 1) k A2 (ix2 x 0) + A3 (ix2 0 y))
      ↔ near (rAdj p) (pt k x) y := by
    rw [part_read, h2, h3, sum_dot hq, sum_dot hq, k_neg_121, ← EReal.coe_add, ← EReal.coe_sub, EReal.coe_lt_coe_iff, near_iff hq]
    constructor <;> intro h <;> linarith
  rw [e, e2]
  by_cases h : near (rAdj p) (pt k x) y
  · rw [decide_eq_true h, decide_eq_true (e3.mpr h)]
  · rw [decide_eq_false h, decide_eq_false fun h' => h (e3.mp h')]

theorem sitofp_byte (P : Prop) [Decidable P] :
    (FloatOps.sitofp (F := Ideal) .f32 (BitVec.setWidth 8 (BitVec.ofBool (decide P))) : EReal) = nat (if P then 1 else 0) := by
  show (((BitVec.setWidth 8 (BitVec.ofBool (decide P))).toInt : ℝ) : EReal) = _
  by_cases h : P
  · simp [h, nat]
  · simp [h, nat]

include hq h0 h1 h2 h3 in
/-- The kernel's matrix holds the reference's adjacency, and its degrees tell the core points. -/
theorem adj_read : HoldsAdj (near (rAdj p)) (PI.adj A0 A1 A2 A3) := by
  intro i j
  have e : ∀ (b : Vec Ideal S512x64 .f32) (w : Vec Ideal S512x1 .f32) (x : Fin 512), k0_pay17 A1 A3 b w (ix2 x j) = k0_pay16 A1 A3 b w (ix2 x j) := by
    intro b w x
    pointwise [k0_pay17]
  rw [PI.adj, glue_read, e, byte_read hq h0 h1 h2 h3, sitofp_byte, pt_blockOf]

include hq h0 h1 h2 h3 in
theorem deg_read (i : Fin 4096) : PI.deg A0 A1 A2 A3 (ix2 i 0) = nat (degree (near (rAdj p)) i) := by
  have e : ∀ (b : Vec Ideal S512x64 .f32) (w : Vec Ideal S512x1 .f32) (x : Fin 512), k0_pay18 A1 A3 b w (ix2 x 0)
      = ∑ y : Fin 4096, FloatOps.sitofp (F := Ideal) .f32 (k0_pay16 A1 A3 b w (ix2 x y)) := by
    intro b w x
    pointwise [k0_pay18]
  rw [PI.deg, glue_read, e, degree, ← nat_sum]
  refine Finset.sum_congr rfl fun y _ => ?_
  rw [byte_read hq h0 h1 h2 h3, sitofp_byte, pt_blockOf]

include hq h0 h1 h2 h3 in
theorem deg_core (i : Fin 4096) : nat 10 ≤ PI.deg A0 A1 A2 A3 (ix2 i 0) ↔ isCore (rCore (rAdj p)) i := by
  rw [deg_read hq h0 h1 h2 h3, nat_le, isCore_iff]

end Kernel

end

end Cert.Proof.Value
-- ==== Proof.Value.Inputs.lean ====
/-
  The kernel's inputs as its host operations leave them: the points, their transpose, and the squared lengths as a
  column and as a row.
-/
module

public import proofs.«01_k».proof.Proof.PI.Run
public import Idealize.ShloMosaic.Lib.Pointwise

@[expose] public section

noncomputable section

namespace Cert.Proof.Value

open Idealize.ShloMosaic Idealize.ShloMosaic.StableHlo
open Cert.KernelIdeal Cert.KernelIdeal.Gen
open Cert.Proof.PI (V)

variable [Cert.KernelIdeal.Facts]
variable (m : (ℓ : Loc nD τ sig) → Buf (Elt Ideal) ℓ) (c : Dev nD)

/-- The points. -/
def points : FVec Ideal S4096x64 .f32 := m ((c.tc : Thread nD τ).loc main_arg0)

/-- The four inputs at an index. -/
theorem V_points (i : Fin 4096) (l : Fin 64) : (V m c main_arg0 : FVec Ideal S4096x64 .f32) (ix2 i l) = points m c (ix2 i l) :=
  congrFun (PI.V_main_arg0 m c) _

theorem V_transposed (l : Fin 64) (i : Fin 4096) : (V m c main_v3 : FVec Ideal S64x4096 .f32) (ix2 l i) = points m c (ix2 i l) := by
  unfold PI.V hostOps0
  after_results
  pointwise [points]

theorem V_squares (i : Fin 4096) :
    (V m c main_v2 : FVec Ideal S4096x1 .f32) (ix2 i 0) = ∑ l, points m c (ix2 i l) * points m c (ix2 i l) := by
  unfold PI.V hostOps0
  after_results
  pointwise [points]

theorem V_squares_row (i : Fin 4096) :
    (V m c main_v4 : FVec Ideal S1x4096 .f32) (ix2 0 i) = ∑ l, points m c (ix2 i l) * points m c (ix2 i l) := by
  unfold PI.V hostOps0
  after_results
  pointwise [points]

end Cert.Proof.Value
-- ==== Proof.Value.RefRun.lean ====
/-
  The reference's run as one term: what its operations before the loop, its 64 trips and its operations after the loop
  leave in the result buffer.
-/
module

public import proofs.«01_k».proof.Proof.Value.RefTerms
public import Idealize.ShloMosaic.Lib.Tactic.CleanTypes

@[expose] public section

set_option maxRecDepth 100000

noncomputable section

namespace Cert.Proof.Value

open Idealize.ShloMosaic Idealize.ShloMosaic.StableHlo
open Cert.ReferenceIdeal Cert.ReferenceIdeal.Gen Cert.ReferenceIdeal.Value Cert.ReferenceIdeal.Facts₀ Cert.ReferenceIdeal.Facts
variable [Cert.ReferenceIdeal.Facts]

/-- The operations after the loop give the result from the adjacency, the core points and the labels. -/
theorem post_out (V : Valuation τ sig (Elt Ideal)) (h24 : V (Proc.devRef .tc main_v24) = (iotaInDim S4096 32 0 : IVec S4096 32)) :
    afterL postI V (Proc.devRef .tc main_v48)
      = rOut (V (Proc.devRef .tc main_v13)) (V (Proc.devRef .tc main_v17)) (V (Proc.devRef .tc main_v26_3)) := by
  simp only [postI, afterL_cons, afterL_nil]
  after_results
  simp -implicitDefEqProofs only [TRef.toBuf, TRef.ofBuf, cast_cast, cast_eq]
  rw [h24]
  rfl

/-- Before the loop: the adjacency, the core points, the points' numbers, the pairs of core neighbours, the first labels. -/
theorem entry_adj (V : Valuation τ sig (Elt Ideal)) :
    afterL preI V (Proc.devRef .tc main_v13) = rAdj (V (Proc.devRef .tc main_arg0)) := by
  simp only [preI, afterL_cons, afterL_nil]
  after_results
  try simp -implicitDefEqProofs only [TRef.toBuf, TRef.ofBuf, cast_cast, cast_eq]
  unfold rAdj rSq
  rfl

theorem entry_core (V : Valuation τ sig (Elt Ideal)) :
    afterL preI V (Proc.devRef .tc main_v17) = rCore (rAdj (V (Proc.devRef .tc main_arg0))) := by
  simp only [preI, afterL_cons, afterL_nil]
  after_results
  try simp -implicitDefEqProofs only [TRef.toBuf, TRef.ofBuf, cast_cast, cast_eq]
  unfold rCore rAdj rSq
  rfl

theorem entry_iota (V : Valuation τ sig (Elt Ideal)) :
    afterL preI V (Proc.devRef .tc main_v24) = (iotaInDim S4096 32 0 : IVec S4096 32) := by
  simp only [preI, afterL_cons, afterL_nil]
  after_results

theorem entry_both (V : Valuation τ sig (Elt Ideal)) :
    afterL preI V (Proc.devRef .tc main_v26_0) = rBoth (rAdj (V (Proc.devRef .tc main_arg0))) (rCore (rAdj (V (Proc.devRef .tc main_arg0)))) := by
  simp only [preI, afterL_cons, afterL_nil]
  after_results
  try simp -implicitDefEqProofs only [TRef.toBuf, TRef.ofBuf, cast_cast, cast_eq]
  unfold rBoth rCore rAdj rSq
  rfl

theorem entry_start (V : Valuation τ sig (Elt Ideal)) :
    afterL preI V (Proc.devRef .tc main_v26_3) = rStart (rCore (rAdj (V (Proc.devRef .tc main_arg0)))) := by
  simp only [preI, afterL_cons, afterL_nil]
  after_results
  try simp -implicitDefEqProofs only [TRef.toBuf, TRef.ofBuf, cast_cast, cast_eq]
  unfold rStart rCore rAdj rSq
  refine (id_eq _).trans ?_
  rfl

/-- A buffer the loop does not write is as before it. -/
theorem loop_keeps (m : (ℓ : Loc nD τ sig) → Buf (Elt Ideal) ℓ) (c : Dev nD) (b : Ref sig .tc)
    (hb : ∀ V : Valuation τ sig (Elt Ideal), afterL bodyI (after condOps V) (Proc.devRef .tc b) = V (Proc.devRef .tc b)) :
    ∀ k, atK m k c (Proc.devRef .tc b) = entryContents preI m c (Proc.devRef .tc b)
  | 0 => rfl
  | k + 1 => (hb (atK m k c)).trans (loop_keeps m c b hb k)

/-- A trip writes neither the adjacency nor the core points nor the numbers. -/
theorem trip_keeps_adj (V : Valuation τ sig (Elt Ideal)) :
    afterL bodyI (after condOps V) (Proc.devRef .tc main_v13) = V (Proc.devRef .tc main_v13) := by
  simp only [bodyI, afterL_cons, afterL_nil]
  after_results

theorem trip_keeps_core (V : Valuation τ sig (Elt Ideal)) :
    afterL bodyI (after condOps V) (Proc.devRef .tc main_v17) = V (Proc.devRef .tc main_v17) := by
  simp only [bodyI, afterL_cons, afterL_nil]
  after_results

theorem trip_keeps_iota (V : Valuation τ sig (Elt Ideal)) :
    afterL bodyI (after condOps V) (Proc.devRef .tc main_v24) = V (Proc.devRef .tc main_v24) := by
  simp only [bodyI, afterL_cons, afterL_nil]
  after_results

/-- The trips keep the pairs and sweep the labels. -/
theorem steps_both (V : Valuation τ sig (Elt Ideal)) (k : ℕ) :
    (STEP^[k] V) (Proc.devRef .tc main_v26_0) = V (Proc.devRef .tc main_v26_0) := by
  induction k with
  | zero => rfl
  | succ k ih => rw [Function.iterate_succ_apply', STEP_main_v26_0, ih]

theorem step_comp (V : Valuation τ sig (Elt Ideal)) :
    step_main_v26_3 V = rStep (V (Proc.devRef .tc main_v26_0)) (V (Proc.devRef .tc main_v26_3)) := by
  unfold step_main_v26_3 rStep
  refine (id_eq _).trans ?_
  rfl

theorem steps_comp (V : Valuation τ sig (Elt Ideal)) (k : ℕ) :
    (STEP^[k] V) (Proc.devRef .tc main_v26_3) = (rStep (V (Proc.devRef .tc main_v26_0)))^[k] (V (Proc.devRef .tc main_v26_3)) := by
  induction k with
  | zero => rfl
  | succ k ih =>
    rw [Function.iterate_succ_apply', Function.iterate_succ_apply', STEP_main_v26_3, step_comp, ih, steps_both V k]

/-- The labels after 64 sweeps. -/
def rComp (p : FVec Ideal S4096x64 .f32) : IVec S4096 32 :=
  (rStep (rBoth (rAdj p) (rCore (rAdj p))))^[64] (rStart (rCore (rAdj p)))

/-- What the reference's result buffer ends at. -/
theorem final_out (m : (ℓ : Loc nD τ sig) → Buf (Elt Ideal) ℓ) (c : Dev nD) :
    finalContents condOps preI bodyI postI 64 m c (Proc.devRef .tc main_v48)
      = rOut (rAdj (m (c.tc.loc main_arg0))) (rCore (rAdj (m (c.tc.loc main_arg0)))) (rComp (m (c.tc.loc main_arg0))) := by
  have hk := cond_keeps (atK m 64 c)
  have ha := atK_agree m c 64
  have hcond : ∀ b : Ref sig .tc, b ≠ main_while0c_c_16 → b ≠ main_while0c_v49 →
      after condOps (atK m 64 c) (Proc.devRef .tc b) = atK m 64 c (Proc.devRef .tc b) := by
    intro b h1 h2
    refine after_of_forall_not_mem condOps _ fun op hop => ?_
    fin_cases hop
    · exact fun h => devRef_ne_of_ne h1 (Finset.mem_singleton.mp h)
    · exact fun h => devRef_ne_of_ne h2 (Finset.mem_singleton.mp h)
  have h13 : after condOps (atK m 64 c) (Proc.devRef .tc main_v13) = rAdj (m (c.tc.loc main_arg0)) :=
    (hcond _ (by decide) (by decide)).trans ((loop_keeps m c main_v13 trip_keeps_adj 64).trans (entry_adj _))
  have h17 : after condOps (atK m 64 c) (Proc.devRef .tc main_v17) = rCore (rAdj (m (c.tc.loc main_arg0))) :=
    (hcond _ (by decide) (by decide)).trans ((loop_keeps m c main_v17 trip_keeps_core 64).trans (entry_core _))
  have h24 : after condOps (atK m 64 c) (Proc.devRef .tc main_v24) = (iotaInDim S4096 32 0 : IVec S4096 32) :=
    (hcond _ (by decide) (by decide)).trans ((loop_keeps m c main_v24 trip_keeps_iota 64).trans (entry_iota _))
  have h26 : after condOps (atK m 64 c) (Proc.devRef .tc main_v26_3) = rComp (m (c.tc.loc main_arg0)) := by
    refine (hk main_v26_3 (by decide)).trans ((ha main_v26_3 (by decide)).trans ((steps_comp _ 64).trans ?_))
    refine congrArg₂ (fun b s => (rStep b)^[64] s) (entry_both _) (entry_start _)
  show afterL postI (after condOps (atK m 64 c)) (Proc.devRef .tc main_v48) = _
  refine (post_out _ h24).trans ?_
  rw [h13, h17, h26]

end Cert.Proof.Value
-- ==== Proof.Value.Pre.lean ====
/-
  The precondition, in the reference's terms: every coordinate is finite, and one more sweep changes no label.
-/
module

public import proofs.«01_k».proof.Proof.Value.RefRun
public import proofs.«01_k».proof.Pre_settled

@[expose] public section

set_option maxRecDepth 100000

noncomputable section

namespace Cert.Proof.Value

open Idealize.ShloMosaic
open Cert.ReferenceIdeal

variable [Cert.ReferenceIdeal.Facts] [Cert.Pre_settled.Facts]

/-- The precondition's sweep is the reference's. -/
theorem pre_sweep (both : IVec S4096x4096 1) (comp : IVec S4096 32) :
    Cert.Pre_settled.fn_sweep_1 (F := Ideal) both comp = rStep both comp := by
  unfold Cert.Pre_settled.fn_sweep_1 Cert.Pre_settled.fn_where_0 rStep
  rfl

theorem pre_sweeps (both : IVec S4096x4096 1) (comp : IVec S4096 32) :
    Cert.Pre_settled.fn_sweep_16 (F := Ideal) both comp = (rStep both)^[16] comp := by
  unfold Cert.Pre_settled.fn_sweep_16 Cert.Pre_settled.fn_sweep_4
  simp only [pre_sweep, Function.iterate_succ_apply', Function.iterate_zero, id_eq]

/-- The second part of the precondition. -/
theorem pre_settled (p : FVec Ideal S4096x64 .f32) :
    (Cert.Pre_settled.fn (F := Ideal) p).2 = cmpi .eq (rStep (rBoth (rAdj p) (rCore (rAdj p))) (rComp p)) (rComp p) := by
  unfold Cert.Pre_settled.fn Cert.Pre_settled.fn_part1
  simp only [pre_sweep, pre_sweeps, ← Function.iterate_add_apply]
  rfl

/-- The first part. -/
theorem pre_finite (p : FVec Ideal S4096x64 .f32) :
    (Cert.Pre_settled.fn (F := Ideal) p).1 = cmpf .olt (Host.absf p) (fun _ => Ideal.ofBits .f32 0x7F800000#32) := by
  unfold Cert.Pre_settled.fn Cert.Pre_settled.fn_part1
  rfl

end Cert.Proof.Value
-- ==== Proof.Value.Equation.lean ====
/-
  The equation: where the points are finite and the reference's labels have settled, the kernel's result is the
  reference's.
-/
module

public import proofs.«01_k».proof.Proof.Value.Adj
public import proofs.«01_k».proof.Proof.Value.Inputs
public import proofs.«01_k».proof.Proof.Value.Pre

@[expose] public section

noncomputable section

namespace Cert.Proof.Value

open Classical
open Idealize.ShloMosaic
open Cert.KernelIdeal Cert.KernelIdeal.Gen
open Cert.Proof.PI (settledState ranks labels outOf bodyOut)

/-- A label depends on the ranks of core points alone. -/
theorem label_congr (A : Fin 4096 → Fin 4096 → Prop) (C : Fin 4096 → Prop) {acc acc' : Fin 4096 → ℕ} (h : ∀ i, C i → acc i = acc' i)
    (i : Fin 4096) : label A C acc i = label A C acc' i := by
  have e : (fun j => if A i j ∧ C j then (acc j : ℤ) - 1 else 4097) = fun j => if A i j ∧ C j then (acc' j : ℤ) - 1 else 4097 := by
    funext j
    by_cases hj : A i j ∧ C j
    · rw [if_pos hj, if_pos hj, h j hj.2]
    · rw [if_neg hj, if_neg hj]
  unfold label
  rw [e]
  by_cases hi : C i
  · rw [if_pos hi, if_pos hi, h i hi]
  · rw [if_neg hi, if_neg hi]

/-- The reference's final labels, and its final ranks. -/
def final (A : Fin 4096 → Fin 4096 → Prop) (C : Fin 4096 → Prop) : Fin 4096 → ℕ := (jstep A C)^[64] (start C)
def finalRank (A : Fin 4096 → Fin 4096 → Prop) (C : Fin 4096 → Prop) (i : Fin 4096) : ℕ := count (isRep C (final A C)) (final A C i)

section Kernel
variable [Cert.KernelIdeal.Facts]
variable {A : Fin 4096 → Fin 4096 → Prop} {C : Fin 4096 → Prop} {J : Vec Ideal S4096x4096 .i8} {D : Vec Ideal S4096x1 .f32}
variable (hJ : HoldsAdj A J) (hD : ∀ i, nat 10 ≤ D (ix2 i 0) ↔ C i)

include hD in
/-- The core points, the first labels and the representatives, as the kernel has them. -/
theorem row_core (j : Fin 4096) : k0_pay19 D (ix2 0 j) = 1#1 ↔ C j := by
  have e : k0_pay19 D (ix2 0 j) = BitVec.ofBool (decide (Ideal.ofBits .f32 1092616192#32 ≤ D (ix2 j 0))) := by
    pointwise [k0_pay19]
  rw [e, ofBool_eq_one, k_10, hD]

include hD in
theorem col_core (i : Fin 4096) : k0_pay20 D (ix2 i 0) = 1#1 ↔ C i := by
  have e : k0_pay20 D (ix2 i 0) = BitVec.ofBool (decide (Ideal.ofBits .f32 1092616192#32 ≤ D (ix2 i 0))) := by
    pointwise [k0_pay20]
  rw [e, ofBool_eq_one, k_10, hD]

include hD in
theorem row_start : HoldsRow (k0_pay22 D) (start C) := by
  intro j
  have e : k0_pay22 D (ix2 0 j) = Scalar.select (k0_pay19 D (ix2 0 j)) (FloatOps.sitofp (F := Ideal) .f32 (BitVec.ofNat 32 j.val)) (Ideal.ofBits .f32 1166016512#32) := by
    pointwise [k0_pay22]
  rw [e, select_eq, k_4096, sitofp_word _ (by omega), start]
  by_cases h : C j
  · rw [if_pos h, if_pos ((row_core hD j).mpr h)]
  · rw [if_neg h, if_neg fun h' => h ((row_core hD j).mp h')]

include hD in
theorem col_start : HoldsCol (k0_pay23 D) (start C) := by
  intro j
  have e : k0_pay23 D (ix2 j 0) = Scalar.select (k0_pay20 D (ix2 j 0)) (FloatOps.sitofp (F := Ideal) .f32 (BitVec.ofNat 32 j.val)) (Ideal.ofBits .f32 1166016512#32) := by
    pointwise [k0_pay23, k0_pay21]
  rw [e, select_eq, k_4096, sitofp_word _ (by omega), start]
  by_cases h : C j
  · rw [if_pos h, if_pos ((col_core hD j).mpr h)]
  · rw [if_neg h, if_neg fun h' => h ((col_core hD j).mp h')]

include hD in
theorem rep_read {col : FVec Ideal S4096x1 .f32} {c : Fin 4096 → ℕ} (hc : HoldsCol col c) :
    HoldsCol (k0_pay24 D col) fun i => if isRep C c i then 1 else 0 := by
  intro i
  have e : k0_pay24 D col (ix2 i 0) = Scalar.select (IntOp.andi (k0_pay20 D (ix2 i 0))
      (BitVec.ofBool (decide (col (ix2 i 0) = FloatOps.sitofp (F := Ideal) .f32 (BitVec.ofNat 32 i.val))))) 1 0 := by
    pointwise [k0_pay24, k0_pay21]
  have e2 : IntOp.andi (k0_pay20 D (ix2 i 0))
      (BitVec.ofBool (decide (col (ix2 i 0) = FloatOps.sitofp (F := Ideal) .f32 (BitVec.ofNat 32 i.val)))) = 1#1 ↔ isRep C c i := by
    rw [andi_eq_one, ofBool_eq_one, col_core hD, hc, sitofp_word _ (by omega), nat_inj, isRep]
  rw [e, select_eq]
  by_cases h : isRep C c i
  · rw [if_pos (e2.mpr h), ← nat_one]
    exact congrArg nat (if_pos h).symm
  · rw [if_neg fun h' => h (e2.mp h'), ← nat_zero]
    exact congrArg nat (if_neg h).symm

include hJ hD in
/-- The kernel's result where one more sweep of the reference changes nothing. -/
theorem outOf_read (hsym : ∀ i j, A i j → A j i) (hself : ∀ i, A i i) (hfix : ∀ i, jstep A C (final A C) i = final A C i) (i : Fin 4096) :
    outOf J D (ix2 i 0) = (((label A C (finalRank A C) i : ℤ) : ℝ) : EReal) := by
  have hs := sweeps_read hJ (col_core hD) (row_core hD) 64 _ _ 1#1 _ _ True (row_start hD) (col_start hD)
    (fun j => (start_le j).trans (by omega)) (fun j => (start_le j).trans (by omega)) (by simp)
  have hl := fun j => loop_settled hsym hself hfix j
  have hrep : isRep C (loop A C 64 (start C) (start C) True).2 = isRep C (final A C) := by
    funext j
    refine propext (and_congr_right fun hj => ?_)
    rw [(hl j hj).2]
    rfl
  rw [outOf, settledState, labels_read hJ hD (row_core hD) (ranks_read hs.1 (rep_read hD hs.2)) (fun j => count_le _ _)]
  refine congrArg (fun z : ℤ => ((z : ℝ) : EReal)) (label_congr A C (fun j hj => ?_) i)
  rw [hrep, (hl j hj).1]
  rfl

end Kernel

section Reference
variable [Cert.ReferenceIdeal.Facts] (p : FVec Ideal S4096x64 .f32)

theorem rComp_read (i : Fin 4096) :
    (rComp p (ix1 i)).toInt = final (near (rAdj p)) (isCore (rCore (rAdj p))) i := steps_read _ _ 64 i

/-- A core point's label is a point's number. -/
theorem final_core {A : Fin 4096 → Fin 4096 → Prop} {C : Fin 4096 → Prop} (i : Fin 4096) (hi : C i) : final A C i < 4096 := by
  have h := iter_le (A := A) (C := C) 64 i
  rw [start, if_pos hi] at h
  exact lt_of_le_of_lt h i.isLt

/-- The reference's result. -/
theorem rOut_read (i : Fin 4096) : rOut (rAdj p) (rCore (rAdj p)) (rComp p) (ix2 i 0)
    = (((label (near (rAdj p)) (isCore (rCore (rAdj p))) (finalRank (near (rAdj p)) (isCore (rCore (rAdj p)))) i : ℤ) : ℝ) : EReal) := by
  have e : rOut (rAdj p) (rCore (rAdj p)) (rComp p) (ix2 i 0) = FloatOps.sitofp (F := Ideal) .f32
      (rLabel (rCore (rAdj p)) (rCluster (rCore (rAdj p)) (rComp p)) (rBorder (rAdj p) (rCore (rAdj p)) (rCluster (rCore (rAdj p)) (rComp p))) (ix1 i)) := by
    pointwise [rOut]
  rw [e, ← rLabel_read (rAdj p) (rCore (rAdj p)) (rCluster (rCore (rAdj p)) (rComp p)) (finalRank _ _) (fun _ => count_le _ _)
    (fun j hj => rCluster_read _ _ _ (iter_le_4096 64) (rComp_read p) j (final_core j hj)) i]
  rfl

/-- Under the precondition one more sweep changes no label. -/
theorem settled_fix (h : cmpi .eq (rStep (rBoth (rAdj p) (rCore (rAdj p))) (rComp p)) (rComp p) = fun _ => 1#1) (i : Fin 4096) :
    jstep (near (rAdj p)) (isCore (rCore (rAdj p))) (final (near (rAdj p)) (isCore (rCore (rAdj p)))) i
      = final (near (rAdj p)) (isCore (rCore (rAdj p))) i := by
  have h1 : BitVec.ofBool (decide (rStep (rBoth (rAdj p) (rCore (rAdj p))) (rComp p) (ix1 i) = rComp p (ix1 i))) = 1#1 := congrFun h (ix1 i)
  rw [ofBool_eq_one, ← BitVec.toInt_inj, rStep_read _ _ _ _ (iter_le_4096 64) (rComp_read p), rComp_read] at h1
  exact_mod_cast h1

end Reference

section
variable [Cert.KernelIdeal.Facts] [Cert.ReferenceIdeal.Facts] [Cert.Pre_settled.Facts]

/-- Under the precondition every coordinate is a real number. -/
theorem finite_real (p : FVec Ideal S4096x64 .f32) (h : cmpf .olt (Host.absf p) (fun _ => Ideal.ofBits .f32 0x7F800000#32) = fun _ => 1#1)
    (i : Fin 4096) (l : Fin 64) : p (ix2 i l) = (((p (ix2 i l)).toReal : ℝ) : EReal) := by
  have h1 : cmpf .olt (Host.absf p) (fun _ => Ideal.ofBits .f32 0x7F800000#32) (ix2 i l) = 1#1 := congrFun h (ix2 i l)
  have e : cmpf .olt (Host.absf p) (fun _ => Ideal.ofBits .f32 0x7F800000#32) (ix2 i l)
      = BitVec.ofBool (decide (max (p (ix2 i l)) (-p (ix2 i l)) < Ideal.ofBits .f32 0x7F800000#32)) := by
    pointwise
    rfl
  rw [e, ofBool_eq_one, k_top, max_lt_iff] at h1
  refine (EReal.coe_toReal h1.1.ne fun hb => ?_).symm
  rw [hb, EReal.neg_bot] at h1
  exact lt_irrefl _ h1.2

/-- The kernel's result is the reference's. -/
theorem equation (m : (ℓ : Loc nD τ sig) → Buf (Elt Ideal) ℓ) (c : Dev nD)
    (hpre : (Cert.Pre_settled.fn (F := Ideal) (points m c)).1 = (fun _ => 1#1) ∧ (Cert.Pre_settled.fn (F := Ideal) (points m c)).2 = (fun _ => 1#1)) :
    bodyOut (PI.V m c main_arg0) (PI.V m c main_v3) (PI.V m c main_v2) (PI.V m c main_v4)
      = rOut (rAdj (points m c)) (rCore (rAdj (points m c))) (rComp (points m c)) := by
  rw [pre_finite, pre_settled] at hpre
  have hq := finite_real (points m c) hpre.1
  have hJ := adj_read hq (V_points m c) (V_transposed m c) (V_squares m c) (V_squares_row m c)
  have hD := deg_core hq (V_points m c) (V_transposed m c) (V_squares m c) (V_squares_row m c)
  have h : ∀ i : Fin 4096, bodyOut (PI.V m c main_arg0) (PI.V m c main_v3) (PI.V m c main_v2) (PI.V m c main_v4) (ix2 i 0)
      = rOut (rAdj (points m c)) (rCore (rAdj (points m c))) (rComp (points m c)) (ix2 i 0) := fun i =>
    (outOf_read hJ hD (near_symm hq) (near_self hq) (settled_fix _ hpre.2) i).trans (rOut_read _ i).symm
  refine funext fun (y : S4096x1.Idx) => ?_
  have hy : y = ix2 (n0 := 4096) (n1 := 1) (y (0 : Fin 2)) 0 := by
    refine funext fun a => ?_
    fin_cases a
    · rfl
    · exact Fin.ext (by have h : (y (1 : Fin 2)).val < 1 := (y (1 : Fin 2)).isLt; show (y (1 : Fin 2)).val = 0; omega)
  rw [hy]
  exact h _

end

end Cert.Proof.Value
-- ==== Proof.lean ====
/-
  The claims: the three programs run and leave their argument alone, and the ideal kernel is the printed one with its
  literal named; and where the reference's sweeps have come to rest on finite points, the ideal kernel's labels are the
  reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_settled
public import proofs.«01_k».proof.Proof.P.Run
public import proofs.«01_k».proof.Proof.PI.Run
public import proofs.«01_k».proof.Proof.Ref.Frame
public import proofs.«01_k».proof.Proof.Value.Equation
public import Idealize.ShloMosaic.Adequacy
public import Idealize.ShloMosaic.Init

@[expose] public section

noncomputable section

namespace Cert.Proof

open Idealize.ShloMosaic Idealize.SL.Sem

/-- The kernel as printed runs and leaves its argument alone. -/
theorem frame_kernel : Cert.quiescent_Kernel := fun m ρ _ => P.frame m ρ

/-- The ideal kernel likewise. -/
theorem frame_ideal : Cert.quiescent_KernelIdeal := fun m ρ _ =>
  (θ_run Cert.KernelIdeal.defs _ _).mono (fun _ h => ⟨fun c => (h.1 c).2, h.2⟩) (PI.run m ρ)

/-- The reference likewise. -/
theorem frame_reference : Cert.quiescent_ReferenceIdeal := fun m ρ _ =>
  (θ_run Cert.ReferenceIdeal.defs _ _).mono (fun _ h => ⟨fun c => (h.1 c).2, h.2⟩) (Ref.run m ρ)

/-- The named literal is the word printed, at the printed kernel's values. -/
theorem preserves : Cert.preserves_Kernel_KernelIdeal :=
  IdealRules.named_const.statement Cert.KernelIdeal.κ "root_two" .f32 0x3FB504F3#32 ((Real.sqrt 2 : ℝ) : EReal) rfl

/-- The labels are the reference's. -/
theorem algebraic : Cert.algebraic_KernelIdeal_ReferenceIdeal_pre_settled := by
  intro m g m' g' hpre hargs
  refine ⟨fun c => Value.rOut (Value.rAdj (Value.points m c)) (Value.rCore (Value.rAdj (Value.points m c))) (Value.rComp (Value.points m c)), ?_, ?_⟩
  · exact (θ_run Cert.KernelIdeal.defs _ _).mono
      (fun _ h c => ⟨(h.1 c).1.trans (Value.equation m c (hpre c)), (h.1 c).2⟩) (PI.run m g)
  · refine (θ_run Cert.ReferenceIdeal.defs _ _).mono (fun _ h c => ⟨(h.1 c).1.trans ((Value.final_out m' c).trans ?_), (h.1 c).2⟩) (Ref.run m' g')
    rw [hargs c]
    rfl

theorem claim : Cert.Claim :=
  ⟨Cert.Kernel.Gen.facts, Cert.KernelIdeal.Gen.facts, Cert.ReferenceIdeal.Gen.facts, Cert.Pre_settled.Gen.facts,
    frame_kernel, frame_ideal, fun m ρ _ => frame_ideal m ρ trivial, frame_reference, fun m ρ _ => frame_reference m ρ trivial,
    preserves, algebraic⟩

end Cert.Proof

end
